-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clouds_in_order [hPre_clouds_in_order : Cert.Pre_clouds_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_clouds_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clouds_in_order [hPre_clouds_in_order : Cert.Pre_clouds_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clouds_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_clouds_in_order [hKernelIdeal : Cert.KernelIdeal.Facts] [hPre_clouds_in_order : Cert.Pre_clouds_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clouds_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_clouds_in_order [hReferenceIdeal : Cert.ReferenceIdeal.Facts] [hPre_clouds_in_order : Cert.Pre_clouds_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clouds_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_clouds_in_order [hKernelIdeal : Cert.KernelIdeal.Facts] [hReferenceIdeal : Cert.ReferenceIdeal.Facts] [hPre_clouds_in_order : Cert.Pre_clouds_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clouds_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_clouds_in_order : Cert.Pre_clouds_in_order.Facts),
    quiescent_Kernel (hKernel := hKernel)
    ∧ quiescent_KernelIdeal (hKernelIdeal := hKernelIdeal)
    ∧ quiescent_KernelIdeal_pre_clouds_in_order (hKernelIdeal := hKernelIdeal) (hPre_clouds_in_order := hPre_clouds_in_order)
    ∧ quiescent_ReferenceIdeal (hReferenceIdeal := hReferenceIdeal)
    ∧ quiescent_ReferenceIdeal_pre_clouds_in_order (hReferenceIdeal := hReferenceIdeal) (hPre_clouds_in_order := hPre_clouds_in_order)
    ∧ preserves_Kernel_KernelIdeal
    ∧ algebraic_KernelIdeal_ReferenceIdeal_pre_clouds_in_order (hKernelIdeal := hKernelIdeal) (hReferenceIdeal := hReferenceIdeal) (hPre_clouds_in_order := hPre_clouds_in_order)
-- ==== Pre_clouds_in_order.lean ====
abbrev S8192x3 : Shape := ⟨2, ![8192, 3]⟩
abbrev S8192 : Shape := ⟨1, ![8192]⟩
abbrev S96x1024 : Shape := ⟨2, ![96, 1024]⟩
abbrev S1024 : Shape := ⟨1, ![1024]⟩
abbrev S1024x256 : Shape := ⟨2, ![1024, 256]⟩
abbrev S256 : Shape := ⟨1, ![256]⟩
abbrev S256x9 : Shape := ⟨2, ![256, 9]⟩
abbrev S9 : Shape := ⟨1, ![9]⟩
abbrev S_ : Shape := ⟨0, ![]⟩
abbrev S8191 : Shape := ⟨1, ![8191]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S8192 : S_.BroadcastsInDim S8192 (![] : Fin 0 → Fin S8192.rank)
  reducesTo_S8192_S_d0 : S8192.ReducesTo [0] S_
  slices_S8192_S8191_0 : S8192.Slices ![0] S8191
  slices_S8192_S8191_1 : S8192.Slices ![1] S8191
  reducesTo_S8191_S_d0 : S8191.ReducesTo [0] S_

variable [Facts]

def fn {F : FTy → Type} [FloatOps F] (main_arg0 : FVec F S8192x3 .f32) (main_arg1 : IVec S8192 32) (main_arg2 : FVec F S96x1024 .f32) (main_arg3 : FVec F S1024 .f32) (main_arg4 : FVec F S1024x256 .f32) (main_arg5 : FVec F S256 .f32) (main_arg6 : FVec F S256x9 .f32) (main_arg7 : FVec F S9 .f32) : IVec S_ 1 :=
  let main_v0 : FVec F S8192x3 .f32 := Host.absf main_arg0
  let main_cst : FVec F S_ .f32 := constant S_ .f32 0x5D800000#32
  let main_v1 : FVec F S8192x3 .f32 := broadcastInDim S8192x3 ![] bcast_S_S8192x3 main_cst
  let main_v2 : IVec S8192x3 1 := cmpf .ole main_v0 main_v1
  let main_c : IVec S_ 1 := constantI S_ 1 1#1
  let main_v3 : IVec S_ 1 := (fun x v => Host.reduce IntOp.andi x v reducesTo_S8192x3_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 8#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S8191 32 := (extractStridedSlice S8191 ![0] · slices_S8192_S8191_0) main_arg1
  let main_v11 : IVec S8191 32 := (extractStridedSlice S8191 ![1] · slices_S8192_S8191_1) main_arg1
  let main_v12 : IVec S8191 1 := cmpi .sle main_v10 main_v11
  let main_c_3 : IVec S_ 1 := constantI S_ 1 1#1
  let main_v13 : IVec S_ 1 := (fun x v => Host.reduce IntOp.andi x v reducesTo_S8191_S_d0 h_S_) main_v12 main_c_3
  let main_v14 : IVec S_ 1 := andi main_v3 main_v9
  let main_v15 : IVec S_ 1 := andi main_v14 main_v13
  main_v15
-- ==== Kernel.lean ====
abbrev S8192x3 : Shape := ⟨2, ![8192, 3]⟩
abbrev S8192 : Shape := ⟨1, ![8192]⟩
abbrev S96x1024 : Shape := ⟨2, ![96, 1024]⟩
abbrev S1024 : Shape := ⟨1, ![1024]⟩
abbrev S1024x256 : Shape := ⟨2, ![1024, 256]⟩
abbrev S256 : Shape := ⟨1, ![256]⟩
abbrev S256x9 : Shape := ⟨2, ![256, 9]⟩
abbrev S9 : Shape := ⟨1, ![9]⟩
abbrev S3x8192 : Shape := ⟨2, ![3, 8192]⟩
abbrev S8192x1 : Shape := ⟨2, ![8192, 1]⟩
abbrev S1x8192 : Shape := ⟨2, ![1, 8192]⟩
abbrev S1x1024 : Shape := ⟨2, ![1, 1024]⟩
abbrev S1x256 : Shape := ⟨2, ![1, 256]⟩
abbrev S1x9 : Shape := ⟨2, ![1, 9]⟩
abbrev S16x6x1024 : Shape := ⟨3, ![16, 6, 1024]⟩
abbrev S16x3x1024 : Shape := ⟨3, ![16, 3, 1024]⟩
abbrev S3x16x1024 : Shape := ⟨3, ![3, 16, 1024]⟩
abbrev S48x1024 : Shape := ⟨2, ![48, 1024]⟩
abbrev S8x9 : Shape := ⟨2, ![8, 9]⟩
abbrev S8x1 : Shape := ⟨2, ![8, 1]⟩
abbrev S256x3 : Shape := ⟨2, ![256, 3]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1x8192 : Shape := ⟨3, ![1, 1, 8192]⟩
abbrev S256x16 : Shape := ⟨2, ![256, 16]⟩
abbrev S1x16 : Shape := ⟨2, ![1, 16]⟩
abbrev S256x512 : Shape := ⟨2, ![256, 512]⟩
abbrev S256x528 : Shape := ⟨2, ![256, 528]⟩
abbrev S1x512 : Shape := ⟨2, ![1, 512]⟩
abbrev S512x3 : Shape := ⟨2, ![512, 3]⟩
abbrev S256x96 : Shape := ⟨2, ![256, 96]⟩
abbrev S256x1024 : Shape := ⟨2, ![256, 1024]⟩
abbrev S256x256 : Shape := ⟨2, ![256, 256]⟩
abbrev S8x256 : Shape := ⟨2, ![8, 256]⟩
abbrev S8 : Shape := ⟨1, ![8]⟩
abbrev S8x3x3 : Shape := ⟨3, ![8, 3, 3]⟩
abbrev S3x3x8 : Shape := ⟨3, ![3, 3, 8]⟩
abbrev S3x24 : Shape := ⟨2, ![3, 24]⟩
abbrev S1x8 : Shape := ⟨2, ![1, 8]⟩
abbrev S256x24 : Shape := ⟨2, ![256, 24]⟩
abbrev S256x8 : Shape := ⟨2, ![256, 8]⟩

abbrev nBuf : Space → Nat
  | .hbm => 29
  | .vmem => 25
  | .smem => 0
  | _ => 0

abbrev bufTy : (tb : Table) → Fin (tcTables nBuf tb) → BufTy
  | .hbm, ⟨0, _⟩ => ⟨S8192x3, .f32⟩
  | .hbm, ⟨1, _⟩ => ⟨S8192, .i32⟩
  | .hbm, ⟨2, _⟩ => ⟨S96x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S256x9, .f32⟩
  | .hbm, ⟨7, _⟩ => ⟨S9, .f32⟩
  | .hbm, ⟨8, _⟩ => ⟨S3x8192, .f32⟩
  | .hbm, ⟨9, _⟩ => ⟨S8192x1, .i32⟩
  | .hbm, ⟨10, _⟩ => ⟨S1x8192, .i32⟩
  | .hbm, ⟨11, _⟩ => ⟨S1x1024, .f32⟩
  | .hbm, ⟨12, _⟩ => ⟨S1x256, .f32⟩
  | .hbm, ⟨13, _⟩ => ⟨S1x9, .f32⟩
  | .hbm, ⟨14, _⟩ => ⟨S16x6x1024, .f32⟩
  | .hbm, ⟨15, _⟩ => ⟨S16x3x1024, .f32⟩
  | .hbm, ⟨16, _⟩ => ⟨S3x16x1024, .f32⟩
  | .hbm, ⟨17, _⟩ => ⟨S48x1024, .f32⟩
  | .hbm, ⟨18, _⟩ => ⟨S16x3x1024, .f32⟩
  | .hbm, ⟨19, _⟩ => ⟨S3x16x1024, .f32⟩
  | .hbm, ⟨20, _⟩ => ⟨S48x1024, .f32⟩
  | .hbm, ⟨21, _⟩ => ⟨S96x1024, .f32⟩
  | .hbm, ⟨22, _⟩ => ⟨S8x9, .f32⟩
  | .hbm, ⟨23, _⟩ => ⟨S8x1, .f32⟩
  | .hbm, ⟨24, _⟩ => ⟨S8x3x3, .f32⟩
  | .hbm, ⟨25, _⟩ => ⟨S3x3x8, .f32⟩
  | .hbm, ⟨26, _⟩ => ⟨S3x24, .f32⟩
  | .hbm, ⟨27, _⟩ => ⟨S1x8, .f32⟩
  | .hbm, ⟨28, _⟩ => ⟨S8192x3, .f32⟩
  | .local _ .vmem, ⟨0, _⟩ => ⟨S256x3, .f32⟩
  | .local _ .vmem, ⟨1, _⟩ => ⟨S256x3, .f32⟩
  | .local _ .vmem, ⟨2, _⟩ => ⟨S8192x3, .f32⟩
  | .local _ .vmem, ⟨3, _⟩ => ⟨S3x8192, .f32⟩
  | .local _ .vmem, ⟨4, _⟩ => ⟨S256x1, .i32⟩
  | .local _ .vmem, ⟨5, _⟩ => ⟨S256x1, .i32⟩
  | .local _ .vmem, ⟨6, _⟩ => ⟨S1x8192, .i32⟩
  | .local _ .vmem, ⟨7, _⟩ => ⟨S1x256, .i32⟩
  | .local _ .vmem, ⟨8, _⟩ => ⟨S1x256, .i32⟩
  | .local _ .vmem, ⟨9, _⟩ => ⟨S96x1024, .f32⟩
  | .local _ .vmem, ⟨10, _⟩ => ⟨S1x1024, .f32⟩
  | .local _ .vmem, ⟨11, _⟩ => ⟨S1024x256, .f32⟩
  | .local _ .vmem, ⟨12, _⟩ => ⟨S1x256, .f32⟩
  | .local _ .vmem, ⟨13, _⟩ => ⟨S256x9, .f32⟩
  | .local _ .vmem, ⟨14, _⟩ => ⟨S1x9, .f32⟩
  | .local _ .vmem, ⟨15, _⟩ => ⟨S8x9, .f32⟩
  | .local _ .vmem, ⟨16, _⟩ => ⟨S8x1, .f32⟩
  | .local _ .vmem, ⟨17, _⟩ => ⟨S256x3, .f32⟩
  | .local _ .vmem, ⟨18, _⟩ => ⟨S256x3, .f32⟩
  | .local _ .vmem, ⟨19, _⟩ => ⟨S256x1, .i32⟩
  | .local _ .vmem, ⟨20, _⟩ => ⟨S256x1, .i32⟩
  | .local _ .vmem, ⟨21, _⟩ => ⟨S3x24, .f32⟩
  | .local _ .vmem, ⟨22, _⟩ => ⟨S1x8, .f32⟩
  | .local _ .vmem, ⟨23, _⟩ => ⟨S256x3, .f32⟩
  | .local _ .vmem, ⟨24, _⟩ => ⟨S256x3, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨1, ![32], ![false]⟩

@[reducible] def k0_t1_loop (v26 : BitVec 32) (v33 : BitVec 32) : Scf.Loop 32 :=
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_18 : BitVec 32 := 1#32
  let v51 : BitVec 32 := Scalar.subi v33 c1_i32_18
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c512_i32_19 : BitVec 32 := 512#32
  let c0_i32_22 : BitVec 32 := 0#32
  let v58 : BitVec 1 := Scalar.cmpi .sgt c512_i32_19 c0_i32_22
  let v59 : BitVec 32 := Scalar.extui v58
  let c0_i32_23 : BitVec 32 := 0#32
  let v60 : BitVec 1 := Scalar.cmpi .slt c512_i32_19 c0_i32_23
  let v61 : BitVec 32 := Scalar.extui v60
  let v62 : BitVec 32 := Scalar.subi v59 v61
  let v63 : BitVec 1 := Scalar.cmpi .ne v57 v62
  let v64 : BitVec 32 := Scalar.remsi v51 c512_i32_19
  let c0_i32_24 : BitVec 32 := 0#32
  let v65 : BitVec 1 := Scalar.cmpi .ne v64 c0_i32_24
  let v66 : BitVec 1 := Scalar.andi v63 v65
  let v52 : BitVec 32 := Scalar.divsi v51 c512_i32_19
  let c1_i32_25 : BitVec 32 := 1#32
  let v67 : BitVec 32 := Scalar.subi v52 c1_i32_25
  let v68 : BitVec 32 := Scalar.select v66 v67 v52
  let c1_i32_38 : BitVec 32 := 1#32
  let v97 : BitVec 32 := Scalar.addi v68 c1_i32_38
  let v98 : BitVec 32 := Scalar.subi v97 v50
  let c1_i32_39 : BitVec 32 := 1#32
  let v100 : BitVec 32 := Scalar.divsi v98 c1_i32_39
  let v101 : BitVec 32 := Scalar.muli v100 c1_i32_39
  let v102 : BitVec 32 := Scalar.addi v50 v101
  let c1_i32_40 : BitVec 32 := 1#32
  ⟨v50, v102, c1_i32_40⟩

def k0_off1 (v26 : BitVec 32) (v33 : BitVec 32) (k0_t1 : Fin (k0_t1_loop v26 v33).trips) : Fin 2 → Nat :=
  let c0_72 : Index := 0#32
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_40 : BitVec 32 := 1#32
  let arg15 : BitVec 32 := Scf.iv v50 c1_i32_40 k0_t1
  let c512_i32_71 : BitVec 32 := 512#32
  let v159 : BitVec 32 := Scalar.muli arg15 c512_i32_71
  let v160 : Index := Scalar.indexCast v159
  ![0, v160.toNat]
def k0_off2 (v26 : BitVec 32) (v33 : BitVec 32) (k0_t1 : Fin (k0_t1_loop v26 v33).trips) : Fin 2 → Nat :=
  let c1_73 : Index := 1#32
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_40 : BitVec 32 := 1#32
  let arg15 : BitVec 32 := Scf.iv v50 c1_i32_40 k0_t1
  let c512_i32_71 : BitVec 32 := 512#32
  let v159 : BitVec 32 := Scalar.muli arg15 c512_i32_71
  let v163 : Index := Scalar.indexCast v159
  ![1, v163.toNat]
def k0_off3 (v26 : BitVec 32) (v33 : BitVec 32) (k0_t1 : Fin (k0_t1_loop v26 v33).trips) : Fin 2 → Nat :=
  let c2_74 : Index := 2#32
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_40 : BitVec 32 := 1#32
  let arg15 : BitVec 32 := Scf.iv v50 c1_i32_40 k0_t1
  let c512_i32_71 : BitVec 32 := 512#32
  let v159 : BitVec 32 := Scalar.muli arg15 c512_i32_71
  let v166 : Index := Scalar.indexCast v159
  ![2, v166.toNat]
def k0_off4 (v26 : BitVec 32) (v33 : BitVec 32) (k0_t1 : Fin (k0_t1_loop v26 v33).trips) : Fin 2 → Nat :=
  let c0_75 : Index := 0#32
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_40 : BitVec 32 := 1#32
  let arg15 : BitVec 32 := Scf.iv v50 c1_i32_40 k0_t1
  let c512_i32_71 : BitVec 32 := 512#32
  let v159 : BitVec 32 := Scalar.muli arg15 c512_i32_71
  let v169 : Index := Scalar.indexCast v159
  ![0, v169.toNat]
def k0_off5 (v26 : BitVec 32) (v33 : BitVec 32) (k0_t1 : Fin (k0_t1_loop v26 v33).trips) : Fin 2 → Nat :=
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_40 : BitVec 32 := 1#32
  let arg15 : BitVec 32 := Scf.iv v50 c1_i32_40 k0_t1
  let c512_i32_71 : BitVec 32 := 512#32
  let v159 : BitVec 32 := Scalar.muli arg15 c512_i32_71
  let v194 : Index := Scalar.indexCast v159
  let c0_79 : Index := 0#32
  ![v194.toNat, 0]
@[reducible] def k0_t2_loop (v26 : BitVec 32) (v33 : BitVec 32) : Scf.Loop 32 :=
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_18 : BitVec 32 := 1#32
  let v51 : BitVec 32 := Scalar.subi v33 c1_i32_18
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c512_i32_19 : BitVec 32 := 512#32
  let c0_i32_22 : BitVec 32 := 0#32
  let v58 : BitVec 1 := Scalar.cmpi .sgt c512_i32_19 c0_i32_22
  let v59 : BitVec 32 := Scalar.extui v58
  let c0_i32_23 : BitVec 32 := 0#32
  let v60 : BitVec 1 := Scalar.cmpi .slt c512_i32_19 c0_i32_23
  let v61 : BitVec 32 := Scalar.extui v60
  let v62 : BitVec 32 := Scalar.subi v59 v61
  let v63 : BitVec 1 := Scalar.cmpi .ne v57 v62
  let v64 : BitVec 32 := Scalar.remsi v51 c512_i32_19
  let c0_i32_24 : BitVec 32 := 0#32
  let v65 : BitVec 1 := Scalar.cmpi .ne v64 c0_i32_24
  let v66 : BitVec 1 := Scalar.andi v63 v65
  let v52 : BitVec 32 := Scalar.divsi v51 c512_i32_19
  let c1_i32_25 : BitVec 32 := 1#32
  let v67 : BitVec 32 := Scalar.subi v52 c1_i32_25
  let v68 : BitVec 32 := Scalar.select v66 v67 v52
  let c1_i32_38 : BitVec 32 := 1#32
  let v97 : BitVec 32 := Scalar.addi v68 c1_i32_38
  let v98 : BitVec 32 := Scalar.subi v97 v50
  let c1_i32_39 : BitVec 32 := 1#32
  let v100 : BitVec 32 := Scalar.divsi v98 c1_i32_39
  let v101 : BitVec 32 := Scalar.muli v100 c1_i32_39
  let v102 : BitVec 32 := Scalar.addi v50 v101
  let v99 : BitVec 32 := Scalar.addi v50 v98
  let c1_i32_41 : BitVec 32 := 1#32
  ⟨v102, v99, c1_i32_41⟩
def k0_off6 (v26 : BitVec 32) (v33 : BitVec 32) (k0_t2 : Fin (k0_t2_loop v26 v33).trips) : Fin 2 → Nat :=
  let c0_72 : Index := 0#32
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_18 : BitVec 32 := 1#32
  let v51 : BitVec 32 := Scalar.subi v33 c1_i32_18
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c512_i32_19 : BitVec 32 := 512#32
  let c0_i32_22 : BitVec 32 := 0#32
  let v58 : BitVec 1 := Scalar.cmpi .sgt c512_i32_19 c0_i32_22
  let v59 : BitVec 32 := Scalar.extui v58
  let c0_i32_23 : BitVec 32 := 0#32
  let v60 : BitVec 1 := Scalar.cmpi .slt c512_i32_19 c0_i32_23
  let v61 : BitVec 32 := Scalar.extui v60
  let v62 : BitVec 32 := Scalar.subi v59 v61
  let v63 : BitVec 1 := Scalar.cmpi .ne v57 v62
  let v64 : BitVec 32 := Scalar.remsi v51 c512_i32_19
  let c0_i32_24 : BitVec 32 := 0#32
  let v65 : BitVec 1 := Scalar.cmpi .ne v64 c0_i32_24
  let v66 : BitVec 1 := Scalar.andi v63 v65
  let v52 : BitVec 32 := Scalar.divsi v51 c512_i32_19
  let c1_i32_25 : BitVec 32 := 1#32
  let v67 : BitVec 32 := Scalar.subi v52 c1_i32_25
  let v68 : BitVec 32 := Scalar.select v66 v67 v52
  let c1_i32_38 : BitVec 32 := 1#32
  let v97 : BitVec 32 := Scalar.addi v68 c1_i32_38
  let v98 : BitVec 32 := Scalar.subi v97 v50
  let c1_i32_39 : BitVec 32 := 1#32
  let v100 : BitVec 32 := Scalar.divsi v98 c1_i32_39
  let v101 : BitVec 32 := Scalar.muli v100 c1_i32_39
  let v102 : BitVec 32 := Scalar.addi v50 v101
  let c1_i32_41 : BitVec 32 := 1#32
  let arg15 : BitVec 32 := Scf.iv v102 c1_i32_41 k0_t2
  let c512_i32_71 : BitVec 32 := 512#32
  let v159 : BitVec 32 := Scalar.muli arg15 c512_i32_71
  let v160 : Index := Scalar.indexCast v159
  ![0, v160.toNat]
def k0_off7 (v26 : BitVec 32) (v33 : BitVec 32) (k0_t2 : Fin (k0_t2_loop v26 v33).trips) : Fin 2 → Nat :=
  let c1_73 : Index := 1#32
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_18 : BitVec 32 := 1#32
  let v51 : BitVec 32 := Scalar.subi v33 c1_i32_18
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c512_i32_19 : BitVec 32 := 512#32
  let c0_i32_22 : BitVec 32 := 0#32
  let v58 : BitVec 1 := Scalar.cmpi .sgt c512_i32_19 c0_i32_22
  let v59 : BitVec 32 := Scalar.extui v58
  let c0_i32_23 : BitVec 32 := 0#32
  let v60 : BitVec 1 := Scalar.cmpi .slt c512_i32_19 c0_i32_23
  let v61 : BitVec 32 := Scalar.extui v60
  let v62 : BitVec 32 := Scalar.subi v59 v61
  let v63 : BitVec 1 := Scalar.cmpi .ne v57 v62
  let v64 : BitVec 32 := Scalar.remsi v51 c512_i32_19
  let c0_i32_24 : BitVec 32 := 0#32
  let v65 : BitVec 1 := Scalar.cmpi .ne v64 c0_i32_24
  let v66 : BitVec 1 := Scalar.andi v63 v65
  let v52 : BitVec 32 := Scalar.divsi v51 c512_i32_19
  let c1_i32_25 : BitVec 32 := 1#32
  let v67 : BitVec 32 := Scalar.subi v52 c1_i32_25
  let v68 : BitVec 32 := Scalar.select v66 v67 v52
  let c1_i32_38 : BitVec 32 := 1#32
  let v97 : BitVec 32 := Scalar.addi v68 c1_i32_38
  let v98 : BitVec 32 := Scalar.subi v97 v50
  let c1_i32_39 : BitVec 32 := 1#32
  let v100 : BitVec 32 := Scalar.divsi v98 c1_i32_39
  let v101 : BitVec 32 := Scalar.muli v100 c1_i32_39
  let v102 : BitVec 32 := Scalar.addi v50 v101
  let c1_i32_41 : BitVec 32 := 1#32
  let arg15 : BitVec 32 := Scf.iv v102 c1_i32_41 k0_t2
  let c512_i32_71 : BitVec 32 := 512#32
  let v159 : BitVec 32 := Scalar.muli arg15 c512_i32_71
  let v163 : Index := Scalar.indexCast v159
  ![1, v163.toNat]
def k0_off8 (v26 : BitVec 32) (v33 : BitVec 32) (k0_t2 : Fin (k0_t2_loop v26 v33).trips) : Fin 2 → Nat :=
  let c2_74 : Index := 2#32
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_18 : BitVec 32 := 1#32
  let v51 : BitVec 32 := Scalar.subi v33 c1_i32_18
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c512_i32_19 : BitVec 32 := 512#32
  let c0_i32_22 : BitVec 32 := 0#32
  let v58 : BitVec 1 := Scalar.cmpi .sgt c512_i32_19 c0_i32_22
  let v59 : BitVec 32 := Scalar.extui v58
  let c0_i32_23 : BitVec 32 := 0#32
  let v60 : BitVec 1 := Scalar.cmpi .slt c512_i32_19 c0_i32_23
  let v61 : BitVec 32 := Scalar.extui v60
  let v62 : BitVec 32 := Scalar.subi v59 v61
  let v63 : BitVec 1 := Scalar.cmpi .ne v57 v62
  let v64 : BitVec 32 := Scalar.remsi v51 c512_i32_19
  let c0_i32_24 : BitVec 32 := 0#32
  let v65 : BitVec 1 := Scalar.cmpi .ne v64 c0_i32_24
  let v66 : BitVec 1 := Scalar.andi v63 v65
  let v52 : BitVec 32 := Scalar.divsi v51 c512_i32_19
  let c1_i32_25 : BitVec 32 := 1#32
  let v67 : BitVec 32 := Scalar.subi v52 c1_i32_25
  let v68 : BitVec 32 := Scalar.select v66 v67 v52
  let c1_i32_38 : BitVec 32 := 1#32
  let v97 : BitVec 32 := Scalar.addi v68 c1_i32_38
  let v98 : BitVec 32 := Scalar.subi v97 v50
  let c1_i32_39 : BitVec 32 := 1#32
  let v100 : BitVec 32 := Scalar.divsi v98 c1_i32_39
  let v101 : BitVec 32 := Scalar.muli v100 c1_i32_39
  let v102 : BitVec 32 := Scalar.addi v50 v101
  let c1_i32_41 : BitVec 32 := 1#32
  let arg15 : BitVec 32 := Scf.iv v102 c1_i32_41 k0_t2
  let c512_i32_71 : BitVec 32 := 512#32
  let v159 : BitVec 32 := Scalar.muli arg15 c512_i32_71
  let v166 : Index := Scalar.indexCast v159
  ![2, v166.toNat]
def k0_off9 (v26 : BitVec 32) (v33 : BitVec 32) (k0_t2 : Fin (k0_t2_loop v26 v33).trips) : Fin 2 → Nat :=
  let c0_75 : Index := 0#32
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_18 : BitVec 32 := 1#32
  let v51 : BitVec 32 := Scalar.subi v33 c1_i32_18
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c512_i32_19 : BitVec 32 := 512#32
  let c0_i32_22 : BitVec 32 := 0#32
  let v58 : BitVec 1 := Scalar.cmpi .sgt c512_i32_19 c0_i32_22
  let v59 : BitVec 32 := Scalar.extui v58
  let c0_i32_23 : BitVec 32 := 0#32
  let v60 : BitVec 1 := Scalar.cmpi .slt c512_i32_19 c0_i32_23
  let v61 : BitVec 32 := Scalar.extui v60
  let v62 : BitVec 32 := Scalar.subi v59 v61
  let v63 : BitVec 1 := Scalar.cmpi .ne v57 v62
  let v64 : BitVec 32 := Scalar.remsi v51 c512_i32_19
  let c0_i32_24 : BitVec 32 := 0#32
  let v65 : BitVec 1 := Scalar.cmpi .ne v64 c0_i32_24
  let v66 : BitVec 1 := Scalar.andi v63 v65
  let v52 : BitVec 32 := Scalar.divsi v51 c512_i32_19
  let c1_i32_25 : BitVec 32 := 1#32
  let v67 : BitVec 32 := Scalar.subi v52 c1_i32_25
  let v68 : BitVec 32 := Scalar.select v66 v67 v52
  let c1_i32_38 : BitVec 32 := 1#32
  let v97 : BitVec 32 := Scalar.addi v68 c1_i32_38
  let v98 : BitVec 32 := Scalar.subi v97 v50
  let c1_i32_39 : BitVec 32 := 1#32
  let v100 : BitVec 32 := Scalar.divsi v98 c1_i32_39
  let v101 : BitVec 32 := Scalar.muli v100 c1_i32_39
  let v102 : BitVec 32 := Scalar.addi v50 v101
  let c1_i32_41 : BitVec 32 := 1#32
  let arg15 : BitVec 32 := Scf.iv v102 c1_i32_41 k0_t2
  let c512_i32_71 : BitVec 32 := 512#32
  let v159 : BitVec 32 := Scalar.muli arg15 c512_i32_71
  let v169 : Index := Scalar.indexCast v159
  ![0, v169.toNat]
def k0_off10 (v26 : BitVec 32) (v33 : BitVec 32) (k0_t2 : Fin (k0_t2_loop v26 v33).trips) : Fin 2 → Nat :=
  let c0_i32_13 : BitVec 32 := 0#32
  let v35 : BitVec 1 := Scalar.cmpi .sgt v26 c0_i32_13
  let v36 : BitVec 32 := Scalar.extui v35
  let c0_i32_14 : BitVec 32 := 0#32
  let v37 : BitVec 1 := Scalar.cmpi .slt v26 c0_i32_14
  let v38 : BitVec 32 := Scalar.extui v37
  let v39 : BitVec 32 := Scalar.subi v36 v38
  let c512_i32 : BitVec 32 := 512#32
  let c0_i32_15 : BitVec 32 := 0#32
  let v40 : BitVec 1 := Scalar.cmpi .sgt c512_i32 c0_i32_15
  let v41 : BitVec 32 := Scalar.extui v40
  let c0_i32_16 : BitVec 32 := 0#32
  let v42 : BitVec 1 := Scalar.cmpi .slt c512_i32 c0_i32_16
  let v43 : BitVec 32 := Scalar.extui v42
  let v44 : BitVec 32 := Scalar.subi v41 v43
  let v45 : BitVec 1 := Scalar.cmpi .ne v39 v44
  let v46 : BitVec 32 := Scalar.remsi v26 c512_i32
  let c0_i32_17 : BitVec 32 := 0#32
  let v47 : BitVec 1 := Scalar.cmpi .ne v46 c0_i32_17
  let v48 : BitVec 1 := Scalar.andi v45 v47
  let v34 : BitVec 32 := Scalar.divsi v26 c512_i32
  let c1_i32 : BitVec 32 := 1#32
  let v49 : BitVec 32 := Scalar.subi v34 c1_i32
  let v50 : BitVec 32 := Scalar.select v48 v49 v34
  let c1_i32_18 : BitVec 32 := 1#32
  let v51 : BitVec 32 := Scalar.subi v33 c1_i32_18
  let c0_i32_20 : BitVec 32 := 0#32
  let v53 : BitVec 1 := Scalar.cmpi .sgt v51 c0_i32_20
  let v54 : BitVec 32 := Scalar.extui v53
  let c0_i32_21 : BitVec 32 := 0#32
  let v55 : BitVec 1 := Scalar.cmpi .slt v51 c0_i32_21
  let v56 : BitVec 32 := Scalar.extui v55
  let v57 : BitVec 32 := Scalar.subi v54 v56
  let c512_i32_19 : BitVec 32 := 512#32
  let c0_i32_22 : BitVec 32 := 0#32
  let v58 : BitVec 1 := Scalar.cmpi .sgt c512_i32_19 c0_i32_22
  let v59 : BitVec 32 := Scalar.extui v58
  let c0_i32_23 : BitVec 32 := 0#32
  let v60 : BitVec 1 := Scalar.cmpi .slt c512_i32_19 c0_i32_23
  let v61 : BitVec 32 := Scalar.extui v60
  let v62 : BitVec 32 := Scalar.subi v59 v61
  let v63 : BitVec 1 := Scalar.cmpi .ne v57 v62
  let v64 : BitVec 32 := Scalar.remsi v51 c512_i32_19
  let c0_i32_24 : BitVec 32 := 0#32
  let v65 : BitVec 1 := Scalar.cmpi .ne v64 c0_i32_24
  let v66 : BitVec 1 := Scalar.andi v63 v65
  let v52 : BitVec 32 := Scalar.divsi v51 c512_i32_19
  let c1_i32_25 : BitVec 32 := 1#32
  let v67 : BitVec 32 := Scalar.subi v52 c1_i32_25
  let v68 : BitVec 32 := Scalar.select v66 v67 v52
  let c1_i32_38 : BitVec 32 := 1#32
  let v97 : BitVec 32 := Scalar.addi v68 c1_i32_38
  let v98 : BitVec 32 := Scalar.subi v97 v50
  let c1_i32_39 : BitVec 32 := 1#32
  let v100 : BitVec 32 := Scalar.divsi v98 c1_i32_39
  let v101 : BitVec 32 := Scalar.muli v100 c1_i32_39
  let v102 : BitVec 32 := Scalar.addi v50 v101
  let c1_i32_41 : BitVec 32 := 1#32
  let arg15 : BitVec 32 := Scf.iv v102 c1_i32_41 k0_t2
  let c512_i32_71 : BitVec 32 := 512#32
  let v159 : BitVec 32 := Scalar.muli arg15 c512_i32_71
  let v194 : Index := Scalar.indexCast v159
  let c0_79 : Index := 0#32
  ![v194.toNat, 0]

def k0_chk1 (v26 : BitVec 32) (v33 : BitVec 32) : Prop :=
  ((k0_t1_loop v26 v33).OK) ∧
  (∀ k0_t1 : Fin (k0_t1_loop v26 v33).trips, ∀ a, (k0_off1 v26 v33 k0_t1) a + S1x512.size a ≤ S3x8192.size a) ∧
  (∀ k0_t1 : Fin (k0_t1_loop v26 v33).trips, ∀ a, (k0_off2 v26 v33 k0_t1) a + S1x512.size a ≤ S3x8192.size a) ∧
  (∀ k0_t1 : Fin (k0_t1_loop v26 v33).trips, ∀ a, (k0_off3 v26 v33 k0_t1) a + S1x512.size a ≤ S3x8192.size a) ∧
  (∀ k0_t1 : Fin (k0_t1_loop v26 v33).trips, ∀ a, (k0_off4 v26 v33 k0_t1) a + S1x512.size a ≤ S1x8192.size a) ∧
  (∀ k0_t1 : Fin (k0_t1_loop v26 v33).trips, ∀ a, (k0_off5 v26 v33 k0_t1) a + S512x3.size a ≤ S8192x3.size a) ∧
  ((k0_t2_loop v26 v33).OK) ∧
  (∀ k0_t2 : Fin (k0_t2_loop v26 v33).trips, ∀ a, (k0_off6 v26 v33 k0_t2) a + S1x512.size a ≤ S3x8192.size a) ∧
  (∀ k0_t2 : Fin (k0_t2_loop v26 v33).trips, ∀ a, (k0_off7 v26 v33 k0_t2) a + S1x512.size a ≤ S3x8192.size a) ∧
  (∀ k0_t2 : Fin (k0_t2_loop v26 v33).trips, ∀ a, (k0_off8 v26 v33 k0_t2) a + S1x512.size a ≤ S3x8192.size a) ∧
  (∀ k0_t2 : Fin (k0_t2_loop v26 v33).trips, ∀ a, (k0_off9 v26 v33 k0_t2) a + S1x512.size a ≤ S1x8192.size a) ∧
  (∀ k0_t2 : Fin (k0_t2_loop v26 v33).trips, ∀ a, (k0_off10 v26 v33 k0_t2) a + S512x3.size a ≤ S8192x3.size a)
theorem k0_t1_ok : ∀ (v26 : BitVec 32) (v33 : BitVec 32) (k0_hw1 : k0_chk1 v26 v33), (k0_t1_loop v26 v33).OK := fun v26 v33 k0_hw1 => k0_hw1.1
theorem k0_off1_inb : ∀ (v26 : BitVec 32) (v33 : BitVec 32) (k0_hw1 : k0_chk1 v26 v33) (k0_t1 : Fin (k0_t1_loop v26 v33).trips), ∀ a, (k0_off1 v26 v33 k0_t1) a + S1x512.size a ≤ S3x8192.size a := fun v26 v33 k0_hw1 k0_t1 => k0_hw1.2.1 k0_t1
theorem k0_off2_inb : ∀ (v26 : BitVec 32) (v33 : BitVec 32) (k0_hw1 : k0_chk1 v26 v33) (k0_t1 : Fin (k0_t1_loop v26 v33).trips), ∀ a, (k0_off2 v26 v33 k0_t1) a + S1x512.size a ≤ S3x8192.size a := fun v26 v33 k0_hw1 k0_t1 => k0_hw1.2.2.1 k0_t1
theorem k0_off3_inb : ∀ (v26 : BitVec 32) (v33 : BitVec 32) (k0_hw1 : k0_chk1 v26 v33) (k0_t1 : Fin (k0_t1_loop v26 v33).trips), ∀ a, (k0_off3 v26 v33 k0_t1) a + S1x512.size a ≤ S3x8192.size a := fun v26 v33 k0_hw1 k0_t1 => k0_hw1.2.2.2.1 k0_t1
theorem k0_off4_inb : ∀ (v26 : BitVec 32) (v33 : BitVec 32) (k0_hw1 : k0_chk1 v26 v33) (k0_t1 : Fin (k0_t1_loop v26 v33).trips), ∀ a, (k0_off4 v26 v33 k0_t1) a + S1x512.size a ≤ S1x8192.size a := fun v26 v33 k0_hw1 k0_t1 => k0_hw1.2.2.2.2.1 k0_t1
theorem k0_off5_inb : ∀ (v26 : BitVec 32) (v33 : BitVec 32) (k0_hw1 : k0_chk1 v26 v33) (k0_t1 : Fin (k0_t1_loop v26 v33).trips), ∀ a, (k0_off5 v26 v33 k0_t1) a + S512x3.size a ≤ S8192x3.size a := fun v26 v33 k0_hw1 k0_t1 => k0_hw1.2.2.2.2.2.1 k0_t1
theorem k0_t2_ok : ∀ (v26 : BitVec 32) (v33 : BitVec 32) (k0_hw1 : k0_chk1 v26 v33), (k0_t2_loop v26 v33).OK := fun v26 v33 k0_hw1 => k0_hw1.2.2.2.2.2.2.1
theorem k0_off6_inb : ∀ (v26 : BitVec 32) (v33 : BitVec 32) (k0_hw1 : k0_chk1 v26 v33) (k0_t2 : Fin (k0_t2_loop v26 v33).trips), ∀ a, (k0_off6 v26 v33 k0_t2) a + S1x512.size a ≤ S3x8192.size a := fun v26 v33 k0_hw1 k0_t2 => k0_hw1.2.2.2.2.2.2.2.1 k0_t2
theorem k0_off7_inb : ∀ (v26 : BitVec 32) (v33 : BitVec 32) (k0_hw1 : k0_chk1 v26 v33) (k0_t2 : Fin (k0_t2_loop v26 v33).trips), ∀ a, (k0_off7 v26 v33 k0_t2) a + S1x512.size a ≤ S3x8192.size a := fun v26 v33 k0_hw1 k0_t2 => k0_hw1.2.2.2.2.2.2.2.2.1 k0_t2
theorem k0_off8_inb : ∀ (v26 : BitVec 32) (v33 : BitVec 32) (k0_hw1 : k0_chk1 v26 v33) (k0_t2 : Fin (k0_t2_loop v26 v33).trips), ∀ a, (k0_off8 v26 v33 k0_t2) a + S1x512.size a ≤ S3x8192.size a := fun v26 v33 k0_hw1 k0_t2 => k0_hw1.2.2.2.2.2.2.2.2.2.1 k0_t2
theorem k0_off9_inb : ∀ (v26 : BitVec 32) (v33 : BitVec 32) (k0_hw1 : k0_chk1 v26 v33) (k0_t2 : Fin (k0_t2_loop v26 v33).trips), ∀ a, (k0_off9 v26 v33 k0_t2) a + S1x512.size a ≤ S1x8192.size a := fun v26 v33 k0_hw1 k0_t2 => k0_hw1.2.2.2.2.2.2.2.2.2.2.1 k0_t2
theorem k0_off10_inb : ∀ (v26 : BitVec 32) (v33 : BitVec 32) (k0_hw1 : k0_chk1 v26 v33) (k0_t2 : Fin (k0_t2_loop v26 v33).trips), ∀ a, (k0_off10 v26 v33 k0_t2) a + S512x3.size a ≤ S8192x3.size a := fun v26 v33 k0_hw1 k0_t2 => k0_hw1.2.2.2.2.2.2.2.2.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S96x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x9 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x9 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x9 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S8192x3 : Shape := ⟨2, ![8192, 3]⟩
abbrev S8192 : Shape := ⟨1, ![8192]⟩
abbrev S96x1024 : Shape := ⟨2, ![96, 1024]⟩
abbrev S1024 : Shape := ⟨1, ![1024]⟩
abbrev S1024x256 : Shape := ⟨2, ![1024, 256]⟩
abbrev S256 : Shape := ⟨1, ![256]⟩
abbrev S256x9 : Shape := ⟨2, ![256, 9]⟩
abbrev S9 : Shape := ⟨1, ![9]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S8192x1 : Shape := ⟨2, ![8192, 1]⟩
abbrev S1x8192 : Shape := ⟨2, ![1, 8192]⟩
abbrev S8192x16 : Shape := ⟨2, ![8192, 16]⟩
abbrev S8192x16x1 : Shape := ⟨3, ![8192, 16, 1]⟩
abbrev S8192x16x3 : Shape := ⟨3, ![8192, 16, 3]⟩
abbrev S8192x16x6 : Shape := ⟨3, ![8192, 16, 6]⟩
abbrev S8192x96 : Shape := ⟨2, ![8192, 96]⟩
abbrev S8192x1024 : Shape := ⟨2, ![8192, 1024]⟩
abbrev S1x1024 : Shape := ⟨2, ![1, 1024]⟩
abbrev S8192x256 : Shape := ⟨2, ![8192, 256]⟩
abbrev S1x256 : Shape := ⟨2, ![1, 256]⟩
abbrev S8192x9 : Shape := ⟨2, ![8192, 9]⟩
abbrev S1x9 : Shape := ⟨2, ![1, 9]⟩
abbrev S8x9 : Shape := ⟨2, ![8, 9]⟩
abbrev S8 : Shape := ⟨1, ![8]⟩
abbrev S8x1 : Shape := ⟨2, ![8, 1]⟩
abbrev S8192x3x3 : Shape := ⟨3, ![8192, 3, 3]⟩

abbrev nBuf : Space → Nat
  | .hbm => 89
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192, .i32⟩
  | .hbm, ⟨2, _⟩ => ⟨S96x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S256x9, .f32⟩
  | .hbm, ⟨7, _⟩ => ⟨S9, .f32⟩
  | .hbm, ⟨8, _⟩ => ⟨S8192x1x3, .f32⟩
  | .hbm, ⟨9, _⟩ => ⟨S1x8192x3, .f32⟩
  | .hbm, ⟨10, _⟩ => ⟨S8192x8192x3, .f32⟩
  | .hbm, ⟨11, _⟩ => ⟨S8192x8192x3, .f32⟩
  | .hbm, ⟨12, _⟩ => ⟨S8192x8192x3, .f32⟩
  | .hbm, ⟨13, _⟩ => ⟨S8192x8192x3, .f32⟩
  | .hbm, ⟨14, _⟩ => ⟨S_, .f32⟩
  | .hbm, ⟨15, _⟩ => ⟨S8192x8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x16, .f32⟩
  | .hbm, ⟨27, _⟩ => ⟨S8192x16, .i32⟩
  | .hbm, ⟨28, _⟩ => ⟨S_, .i32⟩
  | .hbm, ⟨29, _⟩ => ⟨S8192x16, .i32⟩
  | .hbm, ⟨30, _⟩ => ⟨S8192x16, .i1⟩
  | .hbm, ⟨31, _⟩ => ⟨S_, .i32⟩
  | .hbm, ⟨32, _⟩ => ⟨S8192x16, .i32⟩
  | .hbm, ⟨33, _⟩ => ⟨S8192x16, .i32⟩
  | .hbm, ⟨34, _⟩ => ⟨S8192x16, .i32⟩
  | .hbm, ⟨35, _⟩ => ⟨S8192x16x1, .i32⟩
  | .hbm, ⟨36, _⟩ => ⟨S8192x16x3, .f32⟩
  | .hbm, ⟨37, _⟩ => ⟨S8192x1x3, .f32⟩
  | .hbm, ⟨38, _⟩ => ⟨S8192x16x3, .f32⟩
  | .hbm, ⟨39, _⟩ => ⟨S8192x16x3, .f32⟩
  | .hbm, ⟨40, _⟩ => ⟨S8192x16x3, .f32⟩
  | .hbm, ⟨41, _⟩ => ⟨S8192x16x6, .f32⟩
  | .hbm, ⟨42, _⟩ => ⟨S8192x96, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x256, .f32⟩
  | .hbm, ⟨51, _⟩ => ⟨S1x256, .f32⟩
  | .hbm, ⟨52, _⟩ => ⟨S8192x256, .f32⟩
  | .hbm, ⟨53, _⟩ => ⟨S8192x256, .f32⟩
  | .hbm, ⟨54, _⟩ => ⟨S_, .f32⟩
  | .hbm, ⟨55, _⟩ => ⟨S8192x256, .f32⟩
  | .hbm, ⟨56, _⟩ => ⟨S8192x256, .f32⟩
  | .hbm, ⟨57, _⟩ => ⟨S8192x9, .f32⟩
  | .hbm, ⟨58, _⟩ => ⟨S1x9, .f32⟩
  | .hbm, ⟨59, _⟩ => ⟨S8192x9, .f32⟩
  | .hbm, ⟨60, _⟩ => ⟨S8192x9, .f32⟩
  | .hbm, ⟨61, _⟩ => ⟨S_, .f32⟩
  | .hbm, ⟨62, _⟩ => ⟨S8x9, .f32⟩
  | .hbm, ⟨63, _⟩ => ⟨S8192x1, .i32⟩
  | .hbm, ⟨64, _⟩ => ⟨S8x9, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S8, .f32⟩
  | .hbm, ⟨69, _⟩ => ⟨S8192x1, .i32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S8x1, .f32⟩
  | .hbm, ⟨75, _⟩ => ⟨S8x9, .f32⟩
  | .hbm, ⟨76, _⟩ => ⟨S8x9, .f32⟩
  | .hbm, ⟨77, _⟩ => ⟨S_, .i32⟩
  | .hbm, ⟨78, _⟩ => ⟨S8192, .i32⟩
  | .hbm, ⟨79, _⟩ => ⟨S8192, .i1⟩
  | .hbm, ⟨80, _⟩ => ⟨S_, .i32⟩
  | .hbm, ⟨81, _⟩ => ⟨S8192, .i32⟩
  | .hbm, ⟨82, _⟩ => ⟨S8192, .i32⟩
  | .hbm, ⟨83, _⟩ => ⟨S8192, .i32⟩
  | .hbm, ⟨84, _⟩ => ⟨S8192x1, .i32⟩
  | .hbm, ⟨85, _⟩ => ⟨S8192x9, .f32⟩
  | .hbm, ⟨86, _⟩ => ⟨S8192x3x3, .f32⟩
  | .hbm, ⟨87, _⟩ => ⟨S8192x1x3, .f32⟩
  | .hbm, ⟨88, _⟩ => ⟨S8192x3, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_values : Ref sig .tc := ⟨.hbm, 26, rfl⟩
abbrev main_indices : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_cst : Ref sig .tc := ⟨.hbm, 47, rfl⟩
abbrev main_call1_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call2_cst : Ref sig .tc := ⟨.hbm, 54, rfl⟩
abbrev main_call2_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_3 : Ref sig .tc := ⟨.hbm, 65, rfl⟩
abbrev main_v44 : Ref sig .tc := ⟨.hbm, 66, rfl⟩
abbrev main_cst_4 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_6 : Ref sig .tc := ⟨.hbm, 77, rfl⟩
abbrev main_v53 : Ref sig .tc := ⟨.hbm, 78, rfl⟩
abbrev main_v54 : Ref sig .tc := ⟨.hbm, 79, rfl⟩
abbrev main_c_7 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== Proof.Count.lean ====
module

public import Idealize.ShloMosaic.PureOps
public import Idealize.ShloMosaic.Lib.WordSum
public import Idealize.ShloMosaic.Lib.ValueIdx
public import Idealize.ShloMosaic.Lib.Pipeline.Value

@[expose] public section

/-!
# Counting by adding truth values

A row of 8192 truth values, widened to words of 32 bits and added up, is the word of how many of them hold.
-/

noncomputable section

namespace Cert.Knn

open Idealize.ShloMosaic Idealize.ShloMosaic.WordSum Idealize.ShloMosaic.ValueIdx

/-- The index of row `0` and column `j` of a row of 8192. -/
abbrev rowAt (j : Fin 8192) : (⟨2, ![1, 8192]⟩ : Shape).Idx := ix2 0 j

/-- The value of a widened truth value: one where it holds, zero elsewhere. -/
theorem toNat_extui_one (b : BitVec 1) : (b.setWidth 32).toNat = if b = 1#1 then 1 else 0 := by
  revert b; decide

/-- Adding up a row of widened truth values counts those that hold. -/
theorem count_word (w : IVec ⟨2, ![1, 8192]⟩ 1) (hlt : 1 < 32)
    (h₁ : (⟨2, ![1, 8192]⟩ : Shape).ShapeCasts ⟨3, ![1, 1, 8192]⟩)
    (h₂ : (⟨3, ![1, 1, 8192]⟩ : Shape).Reduces [1, 2] ⟨1, ![1]⟩) (h₃ : (0#32 : BitVec 32) = IKind.add.neutral)
    (h₄ : (⟨1, ![1]⟩ : Shape).ShapeCasts ⟨3, ![1, 1, 1]⟩) (h₅ : ∀ a, (![0, 0, 0] : Fin 3 → Nat) a < (⟨3, ![1, 1, 1]⟩ : Shape).size a) :
    (extractAt (s := ⟨3, ![1, 1, 1]⟩) ![0, 0, 0] (shapeCast ⟨3, ![1, 1, 1]⟩ (multiReductionI .add [1, 2] ⟨1, ![1]⟩
      (shapeCast ⟨3, ![1, 1, 8192]⟩ (extui 32 w hlt) h₁) 0#32 h₂ h₃) h₄) h₅).toNat
      = (Finset.univ.filter fun j : Fin 8192 => w (rowAt j) = 1#1).card := by
  have hall : ∀ (j : (⟨1, ![1]⟩ : Shape).Idx), (Finset.univ.filter fun i => h₂.drop i = j) = Finset.univ := by
    intro j
    refine Finset.filter_true_of_mem fun i _ => ?_
    funext a
    have h1 : (⟨1, ![1]⟩ : Shape).size a = 1 := by fin_cases a; rfl
    apply Fin.ext
    have := (h₂.drop i a).isLt
    have := (j a).isLt
    omega
  have hsum : (∑ i, (shapeCast ⟨3, ![1, 1, 8192]⟩ (extui 32 w hlt) h₁ i).toNat)
      = (Finset.univ.filter fun j : Fin 8192 => w (rowAt j) = 1#1).card := by
    unfold shapeCast
    rw [Equiv.sum_comp (Shape.reshapeEquiv h₁) (fun i => (extui 32 w hlt i).toNat), sum_idx2]
    rw [Fin.sum_univ_one, Finset.card_filter]
    exact Finset.sum_congr rfl fun j _ => toNat_extui_one _
  have hle : (Finset.univ.filter fun j : Fin 8192 => w (rowAt j) = 1#1).card ≤ 8192 := by
    simpa using Finset.card_le_univ (Finset.univ.filter fun j : Fin 8192 => w (rowAt j) = 1#1)
  unfold extractAt
  show (multiReductionI .add [1, 2] ⟨1, ![1]⟩ (shapeCast ⟨3, ![1, 1, 8192]⟩ (extui 32 w hlt) h₁) 0#32 h₂ h₃ _).toNat = _
  rw [toNat_multiReductionI_add _ h₂ h₃ _ (by rw [hall, hsum]; omega), hall, hsum]

/-- The number of points of a row of truth values is at most its length. -/
theorem count_le (w : IVec ⟨2, ![1, 8192]⟩ 1) :
    (Finset.univ.filter fun j : Fin 8192 => w (rowAt j) = 1#1).card ≤ 8192 := by
  simpa using Finset.card_le_univ (Finset.univ.filter fun j : Fin 8192 => w (rowAt j) = 1#1)

end Cert.Knn
-- ==== Proof.Trip.lean ====
module

public import proofs.«01_k».proof.Proof.Gen.KernelIdeal.Loops
public import Idealize.ShloMosaic.Lib.Pipeline.FrameBody

@[expose] public section

/-!
# One trip of the kernel's loop, as a function of what it loads

A trip lays the squared distances to one window of 512 points beside the 16 running ones and takes the
least 16 times over.  Here the trip is written once, as 16 rounds of one and the same step, and the
generated description of the trip is shown to be that.
-/

noncomputable section

namespace Cert.KernelIdeal.Knn

open Cert.KernelIdeal Cert.KernelIdeal.Gen Idealize.ShloMosaic Idealize.ShloMosaic.TcCoe Idealize.SL.Sem

variable {F : FTy → Type} [FloatOps F]

/-- The four running blocks a trip carries: distances and the three coordinates of the points they belong to. -/
abbrev Run (F : FTy → Type) := FVec F S256x16 .f32 × FVec F S256x16 .f32 × FVec F S256x16 .f32 × FVec F S256x16 .f32

/-- The least candidate of each row. -/
def least (a : FVec F S256x528 .f32) : FVec F S256x1 .f32 :=
  shapeCast S256x1 (multiReduction .minimumf [1] S256 a 0x7F800000#32 reduces_S256x528_S256 (.inl rfl) rfl) shapeCasts_S256_S256x1

/-- Marks, in each row, the first candidate (by identifier) that attains the least. -/
def mark (a : FVec F S256x528 .f32) : IVec S256x528 1 :=
  cmpi .eq k0_pay268 (broadcastTo S256x528 (shapeCast S256x1 (multiReductionI .minsi [1] S256
    (select (cmpf .oeq a (broadcastTo S256x528 (least a) broadcasts_S256x1_S256x528)) k0_pay268
      (broadcast S256x528 2147483647#32)) 2147483647#32 reduces_S256x528_S256 rfl) shapeCasts_S256_S256x1)
    broadcasts_S256x1_S256x528)

/-- The candidates with the marked one put out of play. -/
def strike (a : FVec F S256x528 .f32) : FVec F S256x528 .f32 :=
  select (mark a) (broadcast S256x528 (Scalar.ofBits .f32 0x7F800000#32)) a

/-- The coordinates the marked candidate has in the window. -/
def fromWindow (pw : Vec F S512x3 .f32) (a : FVec F S256x528 .f32) : FVec F S256x3 .f32 :=
  matmul dot_S256x512_S512x3_S256x3_1_0_0_1_n_n none
    (extractStridedSlice S256x512 ![0, 0] (sitofp .f32 (extui 32 (mark a) natLt_1_32)) slices_S256x528_o0_0_S256x512)
    pw (constant S256x3 .f32 0x00000000#32)

/-- The coordinate the marked candidate has among the running ones. -/
def fromRun (r : FVec F S256x16 .f32) (a : FVec F S256x528 .f32) : FVec F S256x1 .f32 :=
  shapeCast S256x1 (multiReduction .add [1] S256 (mulf (sitofp .f32 (extui 32
    (extractStridedSlice S256x16 ![0, 512] (mark a) slices_S256x528_o0_512_S256x16) natLt_1_32)) r)
    0x00000000#32 reduces_S256x16_S256 (.inl rfl) rfl) shapeCasts_S256_S256x1

/-- The marked candidate's three coordinates. -/
def coordX (pw : Vec F S512x3 .f32) (r : FVec F S256x16 .f32) (a : FVec F S256x528 .f32) : FVec F S256x1 .f32 :=
  addf (extractStridedSlice S256x1 ![0, 0] (fromWindow pw a) slices_S256x3_o0_0_S256x1) (fromRun r a)
@[inherit_doc coordX]
def coordY (pw : Vec F S512x3 .f32) (r : FVec F S256x16 .f32) (a : FVec F S256x528 .f32) : FVec F S256x1 .f32 :=
  addf (extractStridedSlice S256x1 ![0, 1] (fromWindow pw a) slices_S256x3_o0_1_S256x1) (fromRun r a)
@[inherit_doc coordX]
def coordZ (pw : Vec F S512x3 .f32) (r : FVec F S256x16 .f32) (a : FVec F S256x528 .f32) : FVec F S256x1 .f32 :=
  addf (extractStridedSlice S256x1 ![0, 2] (fromWindow pw a) slices_S256x3_o0_2_S256x1) (fromRun r a)

/-- The candidates before round `n`. -/
def after (a : FVec F S256x528 .f32) : ℕ → FVec F S256x528 .f32
  | 0 => a
  | n + 1 => strike (after a n)

/-- Sixteen columns side by side. -/
def beside (f : ℕ → FVec F S256x1 .f32) : FVec F S256x16 .f32 :=
  concatenate S256x16 1 [⟨S256x1, f 0⟩, ⟨S256x1, f 1⟩, ⟨S256x1, f 2⟩, ⟨S256x1, f 3⟩, ⟨S256x1, f 4⟩, ⟨S256x1, f 5⟩,
    ⟨S256x1, f 6⟩, ⟨S256x1, f 7⟩, ⟨S256x1, f 8⟩, ⟨S256x1, f 9⟩, ⟨S256x1, f 10⟩, ⟨S256x1, f 11⟩, ⟨S256x1, f 12⟩,
    ⟨S256x1, f 13⟩, ⟨S256x1, f 14⟩, ⟨S256x1, f 15⟩] concatenates_S256x1_S256x1_S256x1_S256x1_S256x1_S256x1_S256x1_S256x1_S256x1_S256x1_S256x1_S256x1_S256x1_S256x1_S256x1_S256x1_S256x16_d1

/-- What one trip yields: from the candidates `a`, the window's coordinates `pw` and the running blocks. -/
def chosen (pw : Vec F S512x3 .f32) (a : FVec F S256x528 .f32) (r : Run F) : Run F :=
  (beside fun n => least (after a n), beside fun n => coordX pw r.2.1 (after a n),
    beside fun n => coordY pw r.2.2.1 (after a n), beside fun n => coordZ pw r.2.2.2 (after a n))

set_option maxRecDepth 65536 in
set_option maxHeartbeats 4000000 in
/-- The generated trip is `chosen`, at the window the trip loads. -/
theorem trip_eq (𝒱 : Variants) (c : Dev nD) (bd : Option 𝒱.V) (i : grid0.Coords) (a1 : Memref sig .tc .vmem S256x3 .f32) (h1 : a1.IsWhole) (a2 : Memref sig .tc .vmem S8192x3 .f32) (h2 : a2.IsWhole) (a3 : Memref sig .tc .vmem S3x8192 .f32) (h3 : a3.IsWhole) (a4 : Memref sig .tc .vmem S256x1 .i32) (h4 : a4.IsWhole) (a5 : Memref sig .tc .vmem S1x8192 .i32) (h5 : a5.IsWhole) (a6 : Memref sig .tc .vmem S1x256 .i32) (h6 : a6.IsWhole) (a7 : Memref sig .tc .vmem S96x1024 .f32) (h7 : a7.IsWhole) (a8 : Memref sig .tc .vmem S1x1024 .f32) (h8 : a8.IsWhole) (a9 : Memref sig .tc .vmem S1024x256 .f32) (h9 : a9.IsWhole) (a10 : Memref sig .tc .vmem S1x256 .f32) (h10 : a10.IsWhole) (a11 : Memref sig .tc .vmem S256x9 .f32) (h11 : a11.IsWhole) (a12 : Memref sig .tc .vmem S1x9 .f32) (h12 : a12.IsWhole) (a13 : Memref sig .tc .vmem S8x9 .f32) (h13 : a13.IsWhole) (a14 : Memref sig .tc .vmem S8x1 .f32) (h14 : a14.IsWhole)
    (x y z : Vec F S256x1 .f32) (s e : BitVec 32) (hw : k0_chk1 s e) (v50 v68 : BitVec 32) (v70 : F .f32)
    (v73 : FVec F S256x16 .f32) (v75 : FVec F S1x16 .f32) (X2 : BufTy.Contents (Elt F) a2.view.ty)
    (X3 : BufTy.Contents (Elt F) a3.view.ty) (X4 : BufTy.Contents (Elt F) a4.view.ty)
    (X5 : BufTy.Contents (Elt F) a5.view.ty) (k : Fin (k0_t1_loop s e).trips) (r : Run F) :
    (trip_k0_t1 (F := F) 𝒱 c bd i a1 h1 a2 h2 a3 h3 a4 h4 a5 h5 a6 h6 a7 h7 a8 h8 a9 h9 a10 h10 a11 h11 a12 h12 a13 h13 a14 h14 x y z s e hw v50 v68 v70 v73 v75 X2 X3 X4 X5 k).1 r
      = chosen (View.ld (a2.view.read (Elt F) X2) (Rect.unit (s := S8192x3) (k0_off5 s e k) S512x3.size (k0_off5_inb s e hw k)))
          (k0_pay1 x y z r.1
            (View.ld (a3.view.read (Elt F) X3) (Rect.unit (s := S3x8192) (k0_off1 s e k) S1x512.size (k0_off1_inb s e hw k)))
            (View.ld (a3.view.read (Elt F) X3) (Rect.unit (s := S3x8192) (k0_off2 s e k) S1x512.size (k0_off2_inb s e hw k)))
            (View.ld (a3.view.read (Elt F) X3) (Rect.unit (s := S3x8192) (k0_off3 s e k) S1x512.size (k0_off3_inb s e hw k)))
            (View.ld (a5.view.read (Elt F) X5) (Rect.unit (s := S1x8192) (k0_off4 s e k) S1x512.size (k0_off4_inb s e hw k)))
            (View.ld (a4.view.read (Elt F) X4) (Rect.unit (s := S256x1) ![0, 0] S256x1.size inb_S256x1_S256x1_0_0))) r := by
  unfold trip_k0_t1
  rfl

end Cert.KernelIdeal.Knn

end
-- ==== Proof.Bounds.lean ====
module

public import proofs.«01_k».proof.Proof.Gen.KernelIdeal.Loops
public import proofs.«01_k».proof.Proof.Count

@[expose] public section

/-!
# The loop over the windows stays inside the points

The loop's first window is read off the number of points before the block's first cloud, its last off the number of
points up to the block's last cloud.  Both numbers are at most 8192, whatever the clouds; so every window the loop
visits lies inside the 8192 points, and the condition the kernel assumes of the two numbers holds.
-/

noncomputable section

namespace Cert.KernelIdeal.Knn

open Cert.KernelIdeal Cert.KernelIdeal.Gen Cert.Knn Idealize.ShloMosaic Idealize.ShloMosaic.TcCoe

variable {F : FTy → Type} [FloatOps F]

/-- The first window is the one the first point lies in. -/
theorem first_window (s e : BitVec 32) (hs : s.toNat ≤ 8192) :
    (k0_t1_loop s e).lb = BitVec.ofNat 32 (s.toNat / 512) := by
  have key : ∀ n : Fin 8193, (k0_t1_loop (BitVec.ofNat 32 n.val) 0#32).lb = BitVec.ofNat 32 (n.val / 512) := by
    decide +kernel
  have h := key ⟨s.toNat, by omega⟩
  rw [BitVec.ofNat_toNat, BitVec.setWidth_eq] at h
  exact h

/-- Going from one number to another by steps of one ends at the other. -/
theorem steps_of_one (a b : BitVec 32) :
    Scalar.addi a (Scalar.muli (Scalar.divsi (Scalar.subi b a) 1#32) 1#32) = b := by
  have h : Scalar.divsi (Scalar.subi b a) 1#32 = b - a := by
    show (if IntOp.SDivCorner (b - a) 1#32 then _ else (b - a).sdiv 1#32) = b - a
    rw [if_neg (by rintro (h | ⟨_, h⟩) <;> exact absurd h (by decide)), BitVec.sdiv_one]
  rw [h]
  show a + (b - a) * 1#32 = b
  rw [BitVec.mul_one, BitVec.add_comm, BitVec.sub_add_cancel]

/-- The windows end before the one after the last point's. -/
theorem last_window (s e : BitVec 32) (he : e.toNat ≤ 8192) :
    (k0_t1_loop s e).ub = BitVec.ofNat 32 ((e.toNat + 511) / 512) := by
  have key : ∀ n : Fin 8193, (k0_t1_loop 0#32 (BitVec.ofNat 32 n.val)).ub = BitVec.ofNat 32 ((n.val + 511) / 512) := by
    decide +kernel
  have h := key ⟨e.toNat, by omega⟩
  rw [BitVec.ofNat_toNat, BitVec.setWidth_eq] at h
  rw [← h]
  exact (steps_of_one _ _).trans (steps_of_one _ _).symm

theorem toInt_ofNat_small (n : Nat) (h : n ≤ 8192) : (BitVec.ofNat 32 n).toInt = n := by
  have h1 : (BitVec.ofNat 32 n).toNat = n := by rw [BitVec.toNat_ofNat]; exact Nat.mod_eq_of_lt (by omega)
  rw [BitVec.toInt_eq_toNat_of_lt (by rw [h1]; omega), h1]

/-- How many windows the loop visits. -/
theorem trips_eq (s e : BitVec 32) (hs : s.toNat ≤ 8192) (he : e.toNat ≤ 8192) :
    (k0_t1_loop s e).trips = (e.toNat + 511) / 512 - s.toNat / 512 := by
  show Scf.trips (k0_t1_loop s e).lb (k0_t1_loop s e).ub 1#32 = _
  rw [first_window s e hs, last_window s e he]
  unfold Scf.trips
  rw [toInt_ofNat_small _ (by omega), toInt_ofNat_small _ (by omega)]
  simp only [show (1#32 : BitVec 32).toInt = 1 by decide]
  omega

/-- The loop makes its steps without leaving the range of the words. -/
theorem loop_ok (s e : BitVec 32) (hs : s.toNat ≤ 8192) (he : e.toNat ≤ 8192) : (k0_t1_loop s e).OK := by
  refine ⟨show (0 : Int) < (1#32 : BitVec 32).toInt by decide, ?_⟩
  show (k0_t1_loop s e).lb.toInt + ((k0_t1_loop s e).trips : Int) * (k0_t1_loop s e).st.toInt < 2 ^ 31
  rw [trips_eq s e hs he, first_window s e hs, toInt_ofNat_small _ (by omega),
    show (k0_t1_loop s e).st.toInt = 1 from (by decide : (1#32 : BitVec 32).toInt = 1)]
  norm_num
  omega

/-- The `k`-th window visited begins at this point. -/
theorem window_start (s e : BitVec 32) (hs : s.toNat ≤ 8192) (he : e.toNat ≤ 8192) (k : Nat)
    (hk : k < (k0_t1_loop s e).trips) :
    (Scalar.indexCast (Scalar.muli (Scf.iv (k0_t1_loop s e).lb 1#32 k) 512#32) : Index).toNat
      = (s.toNat / 512 + k) * 512 := by
  rw [trips_eq s e hs he] at hk
  rw [first_window s e hs]
  show ((BitVec.ofNat 32 (s.toNat / 512) + BitVec.ofNat 32 k * 1#32) * 512#32).toNat = _
  simp only [BitVec.toNat_mul, BitVec.toNat_add, BitVec.toNat_ofNat]
  norm_num
  omega

/-- The window visited lies inside the points. -/
theorem window_inside (s e : BitVec 32) (hs : s.toNat ≤ 8192) (he : e.toNat ≤ 8192) (k : Nat)
    (hk : k < (k0_t1_loop s e).trips) : (s.toNat / 512 + k) * 512 + 512 ≤ 8192 := by
  rw [trips_eq s e hs he] at hk
  omega

/-- The remainder of the loop begins where the loop ended: it visits no window. -/
theorem no_remainder (s e : BitVec 32) (hs : s.toNat ≤ 8192) (he : e.toNat ≤ 8192) :
    (k0_t2_loop s e).lb = (k0_t2_loop s e).ub ∧ (k0_t2_loop s e).lb = BitVec.ofNat 32 ((e.toNat + 511) / 512) := by
  have h1 : (k0_t2_loop s e).lb = (k0_t1_loop s e).ub := rfl
  refine ⟨?_, h1.trans (last_window s e he)⟩
  have h2 : ∀ a b : BitVec 32, Scalar.addi a (Scalar.muli (Scalar.divsi (Scalar.subi b a) 1#32) 1#32)
      = Scalar.addi a (Scalar.subi b a) := by
    intro a b
    rw [steps_of_one]
    show b = a + (b - a)
    rw [BitVec.add_comm, BitVec.sub_add_cancel]
  exact h2 _ _

theorem no_remainder_trips (s e : BitVec 32) (hs : s.toNat ≤ 8192) (he : e.toNat ≤ 8192) :
    (k0_t2_loop s e).trips = 0 := by
  obtain ⟨h, hlb⟩ := no_remainder s e hs he
  show Scf.trips (k0_t2_loop s e).lb (k0_t2_loop s e).ub 1#32 = 0
  rw [← h]
  unfold Scf.trips
  simp only [show (1#32 : BitVec 32).toInt = 1 by decide]
  omega

/-- The condition the kernel assumes of the two numbers holds whenever they are at most 8192. -/
theorem in_bounds (s e : BitVec 32) (hs : s.toNat ≤ 8192) (he : e.toNat ≤ 8192) : k0_chk1 s e := by
  have hno : (k0_t2_loop s e).trips = 0 := no_remainder_trips s e hs he
  have hw := window_start s e hs he
  have hi := window_inside s e hs he
  have row : ∀ (n r : Nat) (k : Fin (k0_t1_loop s e).trips), r + 1 ≤ n → ∀ a : Fin 2,
      (![r, (Scalar.indexCast (Scalar.muli (Scf.iv (k0_t1_loop s e).lb 1#32 k) 512#32) : Index).toNat] : Fin 2 → Nat) a
        + (![1, 512] : Fin 2 → Nat) a ≤ (![n, 8192] : Fin 2 → Nat) a := by
    intro n r k hr a
    rw [hw k k.isLt]
    have := hi k k.isLt
    fin_cases a
    · exact hr
    · exact this
  have col : ∀ (k : Fin (k0_t1_loop s e).trips), ∀ a : Fin 2,
      (![(Scalar.indexCast (Scalar.muli (Scf.iv (k0_t1_loop s e).lb 1#32 k) 512#32) : Index).toNat, 0] : Fin 2 → Nat) a
        + (![512, 3] : Fin 2 → Nat) a ≤ (![8192, 3] : Fin 2 → Nat) a := by
    intro k a
    rw [hw k k.isLt]
    have := hi k k.isLt
    fin_cases a
    · exact this
    · exact le_refl 3
  have ok2 : (k0_t2_loop s e).OK := by
    refine ⟨show (0 : Int) < (1#32 : BitVec 32).toInt by decide, ?_⟩
    show (k0_t2_loop s e).lb.toInt + ((k0_t2_loop s e).trips : Int) * (k0_t2_loop s e).st.toInt < 2 ^ 31
    rw [hno, (no_remainder s e hs he).2, toInt_ofNat_small _ (by omega)]
    norm_num
    omega
  have none : ∀ (p : Fin (k0_t2_loop s e).trips → Prop), ∀ k, p k := fun p k => absurd k.isLt (by omega)
  exact ⟨loop_ok s e hs he, fun k => row 3 0 k (by omega), fun k => row 3 1 k (by omega), fun k => row 3 2 k (by omega),
    fun k => row 1 0 k (by omega), fun k => col k, ok2, none _, none _, none _, none _, none _⟩

/-- The number of points before the block's first cloud. -/
abbrev before (own : Vec F S256x1 .i32) (all : Vec F S1x8192 .i32) : BitVec 32 :=
  extractAt ![0, 0, 0] (k0_pay260 (F := F) own all) inpos_S1x1x1_p0_0_0

/-- The number of points up to the block's last cloud. -/
abbrev upto (own : Vec F S256x1 .i32) (all : Vec F S1x8192 .i32) : BitVec 32 :=
  extractAt ![0, 0, 0] (k0_pay261 (F := F) own all) inpos_S1x1x1_p0_0_0

theorem before_le (own : Vec F S256x1 .i32) (all : Vec F S1x8192 .i32) : (before (F := F) own all).toNat ≤ 8192 :=
  (count_word _ _ _ _ _ _ _).trans_le (count_le _)

theorem upto_le (own : Vec F S256x1 .i32) (all : Vec F S1x8192 .i32) : (upto (F := F) own all).toNat ≤ 8192 :=
  (count_word _ _ _ _ _ _ _).trans_le (count_le _)

/-- The condition the kernel assumes holds of the numbers it counts, whatever the clouds. -/
theorem assumed (own : Vec F S256x1 .i32) (all : Vec F S1x8192 .i32) :
    k0_chk1 (before (F := F) own all) (upto (F := F) own all) :=
  in_bounds _ _ (before_le own all) (upto_le own all)

end Cert.KernelIdeal.Knn
-- ==== Proof.Sweep.lean ====
module

public import proofs.«01_k».proof.Proof.Trip
public import proofs.«01_k».proof.Proof.Bounds
public import proofs.«01_k».proof.Proof.Gen.KernelIdeal.Skeleton
public import Idealize.ShloMosaic.Lib.VecWindow
public import Idealize.ShloMosaic.Lib.Pipeline.Value
public import Idealize.ShloMosaic.Lib.WordCmp
public import Idealize.ShloMosaic.Lib.Tactic

@[expose] public section

set_option maxRecDepth 16384

/-!
# The sweep over the windows, and what the first kernel adds up

The first kernel's body finds the 16 nearest points of each of its 256 points by a sweep over windows, runs the
three layers on them, and adds what they give, cloud by cloud, to two running blocks: the sums and the counts.
-/

noncomputable section

namespace Cert.KernelIdeal.Knn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The sweep over the windows -/

/-- The three coordinates of the block's points, each as a column. -/
abbrev colX (x : Vec F S256x3 .f32) : Vec F S256x1 .f32 := View.ld x (Rect.unit (s := S256x3) ![0, 0] S256x1.size inb_S256x3_S256x1_0_0)
@[inherit_doc colX]
abbrev colY (x : Vec F S256x3 .f32) : Vec F S256x1 .f32 := View.ld x (Rect.unit (s := S256x3) ![0, 1] S256x1.size inb_S256x3_S256x1_0_1)
@[inherit_doc colX]
abbrev colZ (x : Vec F S256x3 .f32) : Vec F S256x1 .f32 := View.ld x (Rect.unit (s := S256x3) ![0, 2] S256x1.size inb_S256x3_S256x1_0_2)

/-- The first window's number: that of the window the first point lies in. -/
abbrev quot (s : BitVec 32) : BitVec 32 := Scalar.divsi s 512#32
@[inherit_doc quot]
abbrev isPos (s : BitVec 32) : BitVec 32 := Scalar.extui (Scalar.cmpi .sgt s 0#32)

/-- The factor of the first running coordinates: one if a window is skipped, zero otherwise. -/
abbrev seed (s : BitVec 32) : F .f32 := k0_pay262 s 512#32 (quot s) (isPos s)

/-- The running blocks before the first window: from the first 16 points of all. -/
def start (posT : Vec F S3x8192 .f32) (s : BitVec 32) : Run F :=
  (k0_pay263 s 512#32 (quot s) (isPos s),
    k0_pay265 (seed s) (k0_pay264 (View.ld posT (Rect.unit (s := S3x8192) ![0, 0] S1x16.size inb_S3x8192_S1x16_0_0))),
    k0_pay266 (seed s) (View.ld posT (Rect.unit (s := S3x8192) ![1, 0] S1x16.size inb_S3x8192_S1x16_1_0)),
    k0_pay267 (seed s) (View.ld posT (Rect.unit (s := S3x8192) ![2, 0] S1x16.size inb_S3x8192_S1x16_2_0)))

/-- The candidates of the `k`-th window visited: its 512 points and the running ones. -/
def candidates (x y z : Vec F S256x1 .f32) (posT : Vec F S3x8192 .f32) (own : Vec F S256x1 .i32) (all : Vec F S1x8192 .i32)
    (s e : BitVec 32) (hw : k0_chk1 s e) (k : Fin (k0_t1_loop s e).trips) (d : FVec F S256x16 .f32) : FVec F S256x528 .f32 :=
  k0_pay1 x y z d
    (View.ld posT (Rect.unit (s := S3x8192) (k0_off1 s e k) S1x512.size (k0_off1_inb s e hw k)))
    (View.ld posT (Rect.unit (s := S3x8192) (k0_off2 s e k) S1x512.size (k0_off2_inb s e hw k)))
    (View.ld posT (Rect.unit (s := S3x8192) (k0_off3 s e k) S1x512.size (k0_off3_inb s e hw k)))
    (View.ld all (Rect.unit (s := S1x8192) (k0_off4 s e k) S1x512.size (k0_off4_inb s e hw k)))
    (View.ld own (Rect.unit (s := S256x1) ![0, 0] S256x1.size inb_S256x1_S256x1_0_0))

/-- The points of the `k`-th window visited. -/
def windowPoints (pos : Vec F S8192x3 .f32) (s e : BitVec 32) (hw : k0_chk1 s e) (k : Fin (k0_t1_loop s e).trips) :
    Vec F S512x3 .f32 :=
  View.ld pos (Rect.unit (s := S8192x3) (k0_off5 s e k) S512x3.size (k0_off5_inb s e hw k))

/-- The running blocks after `n` windows. -/
def sweep (x y z : Vec F S256x1 .f32) (pos : Vec F S8192x3 .f32) (posT : Vec F S3x8192 .f32) (own : Vec F S256x1 .i32)
    (all : Vec F S1x8192 .i32) (s e : BitVec 32) (hw : k0_chk1 s e) (r : Run F) : ℕ → Run F
  | 0 => r
  | n + 1 =>
    if h : n < (k0_t1_loop s e).trips then
      chosen (windowPoints pos s e hw ⟨n, h⟩)
        (candidates x y z posT own all s e hw ⟨n, h⟩ (sweep x y z pos posT own all s e hw r n).1)
        (sweep x y z pos posT own all s e hw r n)
    else sweep x y z pos posT own all s e hw r n

/-- The values the loop carries are those of the sweep. -/
theorem carried (𝒱 : Variants) (c : Dev nD) (bd : Option 𝒱.V) (i : grid0.Coords) (a1 : Memref sig .tc .vmem S256x3 .f32) (h1 : a1.IsWhole) (a2 : Memref sig .tc .vmem S8192x3 .f32) (h2 : a2.IsWhole) (a3 : Memref sig .tc .vmem S3x8192 .f32) (h3 : a3.IsWhole) (a4 : Memref sig .tc .vmem S256x1 .i32) (h4 : a4.IsWhole) (a5 : Memref sig .tc .vmem S1x8192 .i32) (h5 : a5.IsWhole) (a6 : Memref sig .tc .vmem S1x256 .i32) (h6 : a6.IsWhole) (a7 : Memref sig .tc .vmem S96x1024 .f32) (h7 : a7.IsWhole) (a8 : Memref sig .tc .vmem S1x1024 .f32) (h8 : a8.IsWhole) (a9 : Memref sig .tc .vmem S1024x256 .f32) (h9 : a9.IsWhole) (a10 : Memref sig .tc .vmem S1x256 .f32) (h10 : a10.IsWhole) (a11 : Memref sig .tc .vmem S256x9 .f32) (h11 : a11.IsWhole) (a12 : Memref sig .tc .vmem S1x9 .f32) (h12 : a12.IsWhole) (a13 : Memref sig .tc .vmem S8x9 .f32) (h13 : a13.IsWhole) (a14 : Memref sig .tc .vmem S8x1 .f32) (h14 : a14.IsWhole)
    (x y z : Vec F S256x1 .f32) (s e : BitVec 32) (hw : k0_chk1 s e) (v50 v68 : BitVec 32) (v70 : F .f32)
    (v73 : FVec F S256x16 .f32) (v75 : FVec F S1x16 .f32) (X2 : BufTy.Contents (Elt F) a2.view.ty)
    (X3 : BufTy.Contents (Elt F) a3.view.ty) (X4 : BufTy.Contents (Elt F) a4.view.ty)
    (X5 : BufTy.Contents (Elt F) a5.view.ty) (r : Run F) (n : ℕ) (hn : n ≤ (k0_t1_loop s e).trips) :
    st_k0_t1 (F := F) 𝒱 c bd i a1 h1 a2 h2 a3 h3 a4 h4 a5 h5 a6 h6 a7 h7 a8 h8 a9 h9 a10 h10 a11 h11 a12 h12 a13 h13 a14 h14 x y z s e hw v50 v68 v70 v73 v75 X2 X3 X4 X5 r n
      = sweep x y z (a2.view.read (Elt F) X2) (a3.view.read (Elt F) X3) (a4.view.read (Elt F) X4) (a5.view.read (Elt F) X5)
          s e hw r n := by
  induction n with
  | zero => rfl
  | succ n ih =>
    have h : n < (k0_t1_loop s e).trips := hn
    rw [st_k0_t1_succ (F := F) 𝒱 c bd i a1 h1 a2 h2 a3 h3 a4 h4 a5 h5 a6 h6 a7 h7 a8 h8 a9 h9 a10 h10 a11 h11 a12 h12 a13 h13 a14 h14 x y z s e hw v50 v68 v70 v73 v75 X2 X3 X4 X5 r ⟨n, h⟩]
    rw [ih (le_of_lt h)]
    refine (trip_eq 𝒱 c bd i a1 h1 a2 h2 a3 h3 a4 h4 a5 h5 a6 h6 a7 h7 a8 h8 a9 h9 a10 h10 a11 h11 a12 h12 a13 h13 a14 h14 x y z s e hw v50 v68 v70 v73 v75 X2 X3 X4 X5 ⟨n, h⟩ _).trans ?_
    rw [sweep, dif_pos h]
    rfl

/-- The remainder of the loop carries nothing on. -/
theorem carried_rest (𝒱 : Variants) (c : Dev nD) (bd : Option 𝒱.V) (i : grid0.Coords) (a1 : Memref sig .tc .vmem S256x3 .f32) (h1 : a1.IsWhole) (a2 : Memref sig .tc .vmem S8192x3 .f32) (h2 : a2.IsWhole) (a3 : Memref sig .tc .vmem S3x8192 .f32) (h3 : a3.IsWhole) (a4 : Memref sig .tc .vmem S256x1 .i32) (h4 : a4.IsWhole) (a5 : Memref sig .tc .vmem S1x8192 .i32) (h5 : a5.IsWhole) (a6 : Memref sig .tc .vmem S1x256 .i32) (h6 : a6.IsWhole) (a7 : Memref sig .tc .vmem S96x1024 .f32) (h7 : a7.IsWhole) (a8 : Memref sig .tc .vmem S1x1024 .f32) (h8 : a8.IsWhole) (a9 : Memref sig .tc .vmem S1024x256 .f32) (h9 : a9.IsWhole) (a10 : Memref sig .tc .vmem S1x256 .f32) (h10 : a10.IsWhole) (a11 : Memref sig .tc .vmem S256x9 .f32) (h11 : a11.IsWhole) (a12 : Memref sig .tc .vmem S1x9 .f32) (h12 : a12.IsWhole) (a13 : Memref sig .tc .vmem S8x9 .f32) (h13 : a13.IsWhole) (a14 : Memref sig .tc .vmem S8x1 .f32) (h14 : a14.IsWhole)
    (x y z : Vec F S256x1 .f32) (s e : BitVec 32) (hw : k0_chk1 s e) (v50 v68 : BitVec 32) (v70 : F .f32)
    (v73 : FVec F S256x16 .f32) (v75 : FVec F S1x16 .f32) (v102 : BitVec 32) (X2 : BufTy.Contents (Elt F) a2.view.ty)
    (X3 : BufTy.Contents (Elt F) a3.view.ty) (X4 : BufTy.Contents (Elt F) a4.view.ty)
    (X5 : BufTy.Contents (Elt F) a5.view.ty) (r : Run F) (n : ℕ) (hn : n = 0) :
    st_k0_t2 (F := F) 𝒱 c bd i a1 h1 a2 h2 a3 h3 a4 h4 a5 h5 a6 h6 a7 h7 a8 h8 a9 h9 a10 h10 a11 h11 a12 h12 a13 h13 a14 h14 x y z s e hw v50 v68 v70 v73 v75 v102 X2 X3 X4 X5 r n = r := by
  subst hn; rfl

/-- The sixteen nearest points of each of the block's points. -/
def nearest (x1 : Vec F S256x3 .f32) (x2 : Vec F S8192x3 .f32) (x3 : Vec F S3x8192 .f32) (x4 : Vec F S256x1 .i32)
    (x5 : Vec F S1x8192 .i32) : Run F :=
  sweep (colX x1) (colY x1) (colZ x1) x2 x3 x4 x5 (before (F := F) x4 x5) (upto (F := F) x4 x5) (assumed x4 x5)
    (start x3 (before (F := F) x4 x5)) (k0_t1_loop (before (F := F) x4 x5) (upto (F := F) x4 x5)).trips

/-- The two loops together find the sixteen nearest points. -/
theorem swept (𝒱 : Variants) (c : Dev nD) (bd : Option 𝒱.V) (i : grid0.Coords) (a1 : Memref sig .tc .vmem S256x3 .f32) (h1 : a1.IsWhole) (a2 : Memref sig .tc .vmem S8192x3 .f32) (h2 : a2.IsWhole) (a3 : Memref sig .tc .vmem S3x8192 .f32) (h3 : a3.IsWhole) (a4 : Memref sig .tc .vmem S256x1 .i32) (h4 : a4.IsWhole) (a5 : Memref sig .tc .vmem S1x8192 .i32) (h5 : a5.IsWhole) (a6 : Memref sig .tc .vmem S1x256 .i32) (h6 : a6.IsWhole) (a7 : Memref sig .tc .vmem S96x1024 .f32) (h7 : a7.IsWhole) (a8 : Memref sig .tc .vmem S1x1024 .f32) (h8 : a8.IsWhole) (a9 : Memref sig .tc .vmem S1024x256 .f32) (h9 : a9.IsWhole) (a10 : Memref sig .tc .vmem S1x256 .f32) (h10 : a10.IsWhole) (a11 : Memref sig .tc .vmem S256x9 .f32) (h11 : a11.IsWhole) (a12 : Memref sig .tc .vmem S1x9 .f32) (h12 : a12.IsWhole) (a13 : Memref sig .tc .vmem S8x9 .f32) (h13 : a13.IsWhole) (a14 : Memref sig .tc .vmem S8x1 .f32) (h14 : a14.IsWhole)
    (v50 v68 : BitVec 32) (v70 : F .f32) (v73 : FVec F S256x16 .f32) (v75 : FVec F S1x16 .f32) (v102 : BitVec 32)
    (X1 : BufTy.Contents (Elt F) a1.view.ty) (X2 : BufTy.Contents (Elt F) a2.view.ty)
    (X3 : BufTy.Contents (Elt F) a3.view.ty) (X4 : BufTy.Contents (Elt F) a4.view.ty)
    (X5 : BufTy.Contents (Elt F) a5.view.ty) (own : Vec F S256x1 .i32) (all : Vec F S1x8192 .i32)
    (ho : own = a4.view.read (Elt F) X4) (ha : all = a5.view.read (Elt F) X5) :
    st_k0_t2 (F := F) 𝒱 c bd i a1 h1 a2 h2 a3 h3 a4 h4 a5 h5 a6 h6 a7 h7 a8 h8 a9 h9 a10 h10 a11 h11 a12 h12 a13 h13 a14 h14 (colX (a1.view.read (Elt F) X1)) (colY (a1.view.read (Elt F) X1)) (colZ (a1.view.read (Elt F) X1))
        (before (F := F) own all) (upto (F := F) own all) (assumed own all) v50 v68 v70 v73 v75 v102 X2 X3 X4 X5
        (st_k0_t1 (F := F) 𝒱 c bd i a1 h1 a2 h2 a3 h3 a4 h4 a5 h5 a6 h6 a7 h7 a8 h8 a9 h9 a10 h10 a11 h11 a12 h12 a13 h13 a14 h14 (colX (a1.view.read (Elt F) X1)) (colY (a1.view.read (Elt F) X1)) (colZ (a1.view.read (Elt F) X1))
          (before (F := F) own all) (upto (F := F) own all) (assumed own all) v50 v68 v70 v73 v75 X2 X3 X4 X5
          (start (a3.view.read (Elt F) X3) (before (F := F) own all)) (k0_t1_loop (before (F := F) own all) (upto (F := F) own all)).trips)
        (k0_t2_loop (before (F := F) own all) (upto (F := F) own all)).trips
      = nearest (a1.view.read (Elt F) X1) (a2.view.read (Elt F) X2) (a3.view.read (Elt F) X3) (a4.view.read (Elt F) X4)
          (a5.view.read (Elt F) X5) := by
  subst ho ha
  refine (carried_rest (hn := no_remainder_trips _ _ (before_le (F := F) _ _) (upto_le (F := F) _ _)) ..).trans ?_
  exact carried (hn := le_refl _) ..

/-! ## What the body leaves in the two running blocks -/

/-- The running sums after the body, from those before it. -/
def sums (x1 : Vec F S256x3 .f32) (x2 : Vec F S8192x3 .f32) (x3 : Vec F S3x8192 .f32) (x4 : Vec F S256x1 .i32) (x5 : Vec F S1x8192 .i32) (x6 : Vec F S1x256 .i32) (x7 : Vec F S96x1024 .f32) (x8 : Vec F S1x1024 .f32) (x9 : Vec F S1024x256 .f32) (x10 : Vec F S1x256 .f32) (x11 : Vec F S256x9 .f32) (x12 : Vec F S1x9 .f32) (old : Vec F S8x9 .f32) : Vec F S8x9 .f32 :=
  k0_pay295 (k0_pay293 (colX x1) (colY x1) (colZ x1) (nearest x1 x2 x3 x4 x5).2.1 (nearest x1 x2 x3 x4 x5).2.2.1
    (nearest x1 x2 x3 x4 x5).2.2.2 x7) x8 x9 x10 x11 x12 x6 old

/-- The running counts after the body, from those before it. -/
def counts (x6 : Vec F S1x256 .i32) (old : Vec F S8x1 .f32) : Vec F S8x1 .f32 := k0_pay296 x6 old

/-- Whether this is the first grid point, as the kernel asks. -/
abbrev isFirst (i : grid0.Coords) : Prop :=
  Scalar.cmpi .ne (Scalar.extui (Scalar.cmpi .eq (BitVec.ofNat 32 (i 0).val) 0#32)) 0#32 = 1#1

end Cert.KernelIdeal.Knn

end
-- ==== Proof.Later.lean ====
module

public import proofs.«01_k».proof.Proof.Sweep
public import Idealize.ShloMosaic.Lib.VecWindow

@[expose] public section

set_option maxRecDepth 16384

/-!
# The first kernel's body at a grid point other than the first
-/

noncomputable section

namespace Cert.KernelIdeal.Knn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at a grid point other than the first adds to the running blocks. -/
theorem body_later (c : Dev nD) (E : Set ℕ) (i : grid0.Coords) (a1 : Memref sig .tc .vmem S256x3 .f32) (h1 : a1.IsWhole) (a2 : Memref sig .tc .vmem S8192x3 .f32) (h2 : a2.IsWhole) (a3 : Memref sig .tc .vmem S3x8192 .f32) (h3 : a3.IsWhole) (a4 : Memref sig .tc .vmem S256x1 .i32) (h4 : a4.IsWhole) (a5 : Memref sig .tc .vmem S1x8192 .i32) (h5 : a5.IsWhole) (a6 : Memref sig .tc .vmem S1x256 .i32) (h6 : a6.IsWhole) (a7 : Memref sig .tc .vmem S96x1024 .f32) (h7 : a7.IsWhole) (a8 : Memref sig .tc .vmem S1x1024 .f32) (h8 : a8.IsWhole) (a9 : Memref sig .tc .vmem S1024x256 .f32) (h9 : a9.IsWhole) (a10 : Memref sig .tc .vmem S1x256 .f32) (h10 : a10.IsWhole) (a11 : Memref sig .tc .vmem S256x9 .f32) (h11 : a11.IsWhole) (a12 : Memref sig .tc .vmem S1x9 .f32) (h12 : a12.IsWhole) (a13 : Memref sig .tc .vmem S8x9 .f32) (h13 : a13.IsWhole) (a14 : Memref sig .tc .vmem S8x1 .f32) (h14 : a14.IsWhole)
    (x1 : Vec F S256x3 .f32) (x2 : Vec F S8192x3 .f32) (x3 : Vec F S3x8192 .f32) (x4 : Vec F S256x1 .i32) (x5 : Vec F S1x8192 .i32) (x6 : Vec F S1x256 .i32) (x7 : Vec F S96x1024 .f32) (x8 : Vec F S1x1024 .f32) (x9 : Vec F S1024x256 .f32) (x10 : Vec F S1x256 .f32) (x11 : Vec F S256x9 .f32) (x12 : Vec F S1x9 .f32)
    (x13 : Vec F S8x9 .f32) (x14 : Vec F S8x1 .f32) (hc : ¬ isFirst i) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (sums x1 x2 x3 x4 x5 x6 x7 x8 x9 x10 x11 x12 x13)
            ∗ owns (c : Thread nD τ) a14 fullShare (counts x6 x14)) -∗ K ⟨⟩))
      ⊢ wp frame (wpE (defs₀ (F := F)) Variants.none c none) E (cc0__main_kernel i a1 h1 a2 h2 a3 h3 a4 h4 a5 h5 a6 h6 a7 h7 a8 h8 a9 h9 a10 h10 a11 h11 a12 h12 a13 h13 a14 h14) K := by
  simp only [cc0__main_kernel_eq_skeleton]; unfold cc0__main_kernel_skel
  simp only [k0_part23_eq_skeleton, k0_part24_eq_skeleton, k0_part25_eq_skeleton, k0_part26_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf1 hf2 hf3 hf4 hf5 hf6 hf7 hf8 hf9 hf10 hf11 hf12 hf13 hf14
  sl_exec (disch := first | sl_exact hc | exact assumed _ _)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    rw [View.read_writes_full]
    delta body_later.sl.r_6
    rw [View.readAt_full a6.view, View.readAt_full a7.view, View.readAt_full a8.view, View.readAt_full a9.view,
      View.readAt_full a10.view, View.readAt_full a11.view, View.readAt_full a12.view, View.readAt_full a13.view]
    exact congrArg (fun R : Run F => k0_pay295 (k0_pay293 (colX (View.read (Elt F) a1.view f1)) (colY (View.read (Elt F) a1.view f1))
        (colZ (View.read (Elt F) a1.view f1)) R.2.1 R.2.2.1 R.2.2.2 (View.read (Elt F) a7.view f7)) (View.read (Elt F) a8.view f8)
        (View.read (Elt F) a9.view f9) (View.read (Elt F) a10.view f10) (View.read (Elt F) a11.view f11)
        (View.read (Elt F) a12.view f12) (View.read (Elt F) a6.view f6) (View.read (Elt F) a13.view f13))
      (swept Variants.none c none i a1 h1 a2 h2 a3 h3 a4 h4 a5 h5 a6 h6 a7 h7 a8 h8 a9 h9 a10 h10 a11 h11 a12 h12 a13 h13 a14 h14 _ _ _ _ _ _ f1 f2 f3 f4 f5 _ _ (View.readAt_full _ _ _) (View.readAt_full _ _ _))
  iexists _; isplitr
  swap; · iexact H14
  ipureintro
  delta body_later.sl.r_7
  rw [View.read_writes_full]
  rw [View.readAt_full a6.view, View.readAt_full a14.view]
  rfl

end Cert.KernelIdeal.Knn

end
-- ==== Proof.First.lean ====
module

public import proofs.«01_k».proof.Proof.Sweep
public import Idealize.ShloMosaic.Lib.VecWindow

@[expose] public section

set_option maxRecDepth 16384

/-!
# The first kernel's body at the first grid point
-/

noncomputable section

namespace Cert.KernelIdeal.Knn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at the first grid point sets the running blocks to zero and adds to them. -/
theorem body_first (c : Dev nD) (E : Set ℕ) (i : grid0.Coords) (a1 : Memref sig .tc .vmem S256x3 .f32) (h1 : a1.IsWhole) (a2 : Memref sig .tc .vmem S8192x3 .f32) (h2 : a2.IsWhole) (a3 : Memref sig .tc .vmem S3x8192 .f32) (h3 : a3.IsWhole) (a4 : Memref sig .tc .vmem S256x1 .i32) (h4 : a4.IsWhole) (a5 : Memref sig .tc .vmem S1x8192 .i32) (h5 : a5.IsWhole) (a6 : Memref sig .tc .vmem S1x256 .i32) (h6 : a6.IsWhole) (a7 : Memref sig .tc .vmem S96x1024 .f32) (h7 : a7.IsWhole) (a8 : Memref sig .tc .vmem S1x1024 .f32) (h8 : a8.IsWhole) (a9 : Memref sig .tc .vmem S1024x256 .f32) (h9 : a9.IsWhole) (a10 : Memref sig .tc .vmem S1x256 .f32) (h10 : a10.IsWhole) (a11 : Memref sig .tc .vmem S256x9 .f32) (h11 : a11.IsWhole) (a12 : Memref sig .tc .vmem S1x9 .f32) (h12 : a12.IsWhole) (a13 : Memref sig .tc .vmem S8x9 .f32) (h13 : a13.IsWhole) (a14 : Memref sig .tc .vmem S8x1 .f32) (h14 : a14.IsWhole)
    (x1 : Vec F S256x3 .f32) (x2 : Vec F S8192x3 .f32) (x3 : Vec F S3x8192 .f32) (x4 : Vec F S256x1 .i32) (x5 : Vec F S1x8192 .i32) (x6 : Vec F S1x256 .i32) (x7 : Vec F S96x1024 .f32) (x8 : Vec F S1x1024 .f32) (x9 : Vec F S1024x256 .f32) (x10 : Vec F S1x256 .f32) (x11 : Vec F S256x9 .f32) (x12 : Vec F S1x9 .f32)
    (x13 : Vec F S8x9 .f32) (x14 : Vec F S8x1 .f32) (hc : isFirst i) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (sums x1 x2 x3 x4 x5 x6 x7 x8 x9 x10 x11 x12 (k0_pay257 (F := F)))
            ∗ owns (c : Thread nD τ) a14 fullShare (counts x6 (k0_pay258 (F := F)))) -∗ K ⟨⟩))
      ⊢ wp frame (wpE (defs₀ (F := F)) Variants.none c none) E (cc0__main_kernel i a1 h1 a2 h2 a3 h3 a4 h4 a5 h5 a6 h6 a7 h7 a8 h8 a9 h9 a10 h10 a11 h11 a12 h12 a13 h13 a14 h14) K := by
  simp only [cc0__main_kernel_eq_skeleton]; unfold cc0__main_kernel_skel
  simp only [k0_part23_eq_skeleton, k0_part24_eq_skeleton, k0_part25_eq_skeleton, k0_part26_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf1 hf2 hf3 hf4 hf5 hf6 hf7 hf8 hf9 hf10 hf11 hf12 hf13 hf14
  sl_exec (disch := first | sl_exact hc | exact assumed _ _)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    rw [View.read_writes_full]
    delta body_first.sl.r_6
    rw [View.readAt_full a6.view, View.readAt_full a7.view, View.readAt_full a8.view, View.readAt_full a9.view,
      View.readAt_full a10.view, View.readAt_full a11.view, View.readAt_full a12.view]
    rw [show body_first.sl.v148 c a13 = k0_pay257 from by delta body_first.sl.v148; exact View.readCov_full _ _ _ _ _]
    exact congrArg (fun R : Run F => k0_pay295 (k0_pay293 (colX (View.read (Elt F) a1.view f1)) (colY (View.read (Elt F) a1.view f1))
        (colZ (View.read (Elt F) a1.view f1)) R.2.1 R.2.2.1 R.2.2.2 (View.read (Elt F) a7.view f7)) (View.read (Elt F) a8.view f8)
        (View.read (Elt F) a9.view f9) (View.read (Elt F) a10.view f10) (View.read (Elt F) a11.view f11)
        (View.read (Elt F) a12.view f12) (View.read (Elt F) a6.view f6) (k0_pay257 (F := F)))
      (swept Variants.none c none i a1 h1 a2 h2 a3 h3 a4 h4 a5 h5 a6 h6 a7 h7 a8 h8 a9 h9 a10 h10 a11 h11 a12 h12 a13 h13 a14 h14 _ _ _ _ _ _ f1 f2 f3 f4 f5 _ _ (View.readAt_full _ _ _) (View.readAt_full _ _ _))
  iexists _; isplitr
  swap; · iexact H14
  ipureintro
  delta body_first.sl.r_7
  rw [View.read_writes_full]
  rw [View.readAt_full a6.view]
  rw [show body_first.sl.v153 c a14 = k0_pay258 from by delta body_first.sl.v153; exact View.readCov_full _ _ _ _ _]
  rfl

end Cert.KernelIdeal.Knn

end
-- ==== Proof.Entry.lean ====
module

public import proofs.«01_k».proof.Proof.Later
public import proofs.«01_k».proof.Proof.First
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

/-!
# The first call

At every grid point the body is given its blocks and leaves in the two running blocks the sums and the counts of the
points met so far.
-/

noncomputable section

namespace Cert.KernelIdeal.Knn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the buffers as the call is entered
variable (V : (c : Dev nD) → (b : Ref sig .tc) → Buf (Elt F) ((c : Thread nD τ).loc b))

/-- The block of window `w` at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The kernel's first-point condition holds at the first point only. -/
theorem isFirst_iff (t : Fin cfg0.N) : isFirst (grid0.coords t) ↔ t.val = 0 := by
  have ht : t.val < 32 := Nat.lt_of_lt_of_eq t.isLt N_0
  have e0 : (grid0.coords t 0).val = t.val / 1 % 32 := Pipeline.Grid.coords_val t 0 (by decide) rfl
  have e1 : (grid0.coords t 0).val = t.val := by omega
  simp only [isFirst, e1]
  word_cmp

/-- The staging block of each window at a point. -/
abbrev ms0_0 (t : Fin cfg0.N) : Memref sig .tc .vmem S256x3 .f32 := win0_0.stage (cfg0.slots t 0)
@[inherit_doc ms0_0] abbrev ms0_1 (t : Fin cfg0.N) : Memref sig .tc .vmem S8192x3 .f32 := win0_1.stage (cfg0.slots t 1)
abbrev ms0_2 (t : Fin cfg0.N) : Memref sig .tc .vmem S3x8192 .f32 := win0_2.stage (cfg0.slots t 2)
abbrev ms0_3 (t : Fin cfg0.N) : Memref sig .tc .vmem S256x1 .i32 := win0_3.stage (cfg0.slots t 3)
abbrev ms0_4 (t : Fin cfg0.N) : Memref sig .tc .vmem S1x8192 .i32 := win0_4.stage (cfg0.slots t 4)
abbrev ms0_5 (t : Fin cfg0.N) : Memref sig .tc .vmem S1x256 .i32 := win0_5.stage (cfg0.slots t 5)
abbrev ms0_6 (t : Fin cfg0.N) : Memref sig .tc .vmem S96x1024 .f32 := win0_6.stage (cfg0.slots t 6)
abbrev ms0_7 (t : Fin cfg0.N) : Memref sig .tc .vmem S1x1024 .f32 := win0_7.stage (cfg0.slots t 7)
abbrev ms0_8 (t : Fin cfg0.N) : Memref sig .tc .vmem S1024x256 .f32 := win0_8.stage (cfg0.slots t 8)
abbrev ms0_9 (t : Fin cfg0.N) : Memref sig .tc .vmem S1x256 .f32 := win0_9.stage (cfg0.slots t 9)
abbrev ms0_10 (t : Fin cfg0.N) : Memref sig .tc .vmem S256x9 .f32 := win0_10.stage (cfg0.slots t 10)
abbrev ms0_11 (t : Fin cfg0.N) : Memref sig .tc .vmem S1x9 .f32 := win0_11.stage (cfg0.slots t 11)
abbrev ms0_12 (t : Fin cfg0.N) : Memref sig .tc .vmem S8x9 .f32 := win0_12.stage (cfg0.slots t 12)
abbrev ms0_13 (t : Fin cfg0.N) : Memref sig .tc .vmem S8x1 .f32 := win0_13.stage (cfg0.slots t 13)

/-- The sums of the points met before and at point `t`, from those before. -/
abbrev sumsAt (c : Dev nD) (t : Fin cfg0.N) (old : Vec F S8x9 .f32) : Vec F S8x9 .f32 :=
  sums (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) old

/-- The running sums and counts after grid point `n`. -/
def outsAt0 (c : Dev nD) : (n : ℕ) → n < cfg0.N → Vec F S8x9 .f32 × Vec F S8x1 .f32
  | 0, hn => (sumsAt V c ⟨0, hn⟩ k0_pay257, counts (iblk0 V c 5 ⟨0, hn⟩) k0_pay258)
  | n + 1, hn =>
    (sumsAt V c ⟨n + 1, hn⟩ (outsAt0 c n (Nat.lt_of_succ_lt hn)).1,
      counts (iblk0 V c 5 ⟨n + 1, hn⟩) (outsAt0 c n (Nat.lt_of_succ_lt hn)).2)

theorem outsAt0_first (c : Dev nD) (t : Fin cfg0.N) (h : t.val = 0) :
    outsAt0 V c t.val t.isLt = (sumsAt V c t k0_pay257, counts (iblk0 V c 5 t) k0_pay258) := by
  obtain ⟨n, hn⟩ := t
  subst h; rfl

theorem outsAt0_later (c : Dev nD) (t : Fin cfg0.N) (h : ¬ t.val = 0) :
    outsAt0 V c t.val t.isLt = (sumsAt V c t (outsAt0 V c (t.val - 1) (Nat.lt_of_le_of_lt (Nat.sub_le _ _) t.isLt)).1,
      counts (iblk0 V c 5 t) (outsAt0 V c (t.val - 1) (Nat.lt_of_le_of_lt (Nat.sub_le _ _) t.isLt)).2) := by
  obtain ⟨n, hn⟩ := t
  cases n with
  | zero => exact absurd rfl h
  | succ n => rfl

/-- What the pipeline is proved with: every input block unchanged, the two running blocks as computed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => (outsAt0 V c t.val t.isLt).1
    | ⟨13, _⟩ => (outsAt0 V c t.val t.isLt).2
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = (outsAt0 V c t.val t.isLt).1 := by dsimp only [dat0]
theorem after0_13 (c : Dev nD) (t : Fin cfg0.N) : (dat0 V c).after 13 t = (outsAt0 V c t.val t.isLt).2 := by dsimp only [dat0]

/-! Each input's staging block holds its block at every point, fetched there or not. -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; rfl) t d).trans rfl
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; rfl) t d).trans rfl
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; rfl) t d).trans rfl
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; rfl) t d).trans rfl

/-! After the first point the two running blocks hold what the point before left. -/

theorem before0_12 (c : Dev nD) (t : Fin cfg0.N) (h0 : ¬ t.val = 0) (d) :
    (dat0 V c).before 12 t d = (outsAt0 V c (t.val - 1) (Nat.lt_of_le_of_lt (Nat.sub_le _ _) t.isLt)).1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dat0]

theorem before0_13 (c : Dev nD) (t : Fin cfg0.N) (h0 : ¬ t.val = 0) (d) :
    (dat0 V c).before 13 t d = (outsAt0 V c (t.val - 1) (Nat.lt_of_le_of_lt (Nat.sub_le _ _) t.isLt)).2 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dat0]

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d)))

/-- What the body returns at point `t`. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t))

set_option maxHeartbeats 2400000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  by_cases h0 : t.val = 0
  · rw [outsAt0_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_first c Set.univ (grid0.coords t) _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ _ ((isFirst_iff t).mpr h0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [outsAt0_later V c t h0]
    simp only [before0_12 V c t h0, before0_13 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_later c Set.univ (grid0.coords t) _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ _ (fun h => h0 ((isFirst_iff t).mp h)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t` is the body. -/
theorem defs₀_row0 (t : Fin cfg0.N) :
    defs₀ (F := F) .tc cfg0.body (cfg0.bodyArgs t (cfg0.slots t)) = bodyAt0 t := by
  unfold defs₀; rw [Defs.onTc_tc]

/-- The pipeline's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Knn

end
-- ==== Proof.Finish.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

/-!
# The second call

At every grid point the body scales and sums its block of points; the input blocks are unchanged.
-/

noncomputable section

namespace Cert.KernelIdeal.Knn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the buffers as the call is entered
variable (V : (c : Dev nD) → (b : Ref sig .tc) → Buf (Elt F) ((c : Thread nD τ).loc b))

/-- The block of window `w` at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S256x3 := Rect.unit (s := S256x3) ![0, 0] S256x3.size inb_S256x3_S256x3_0_0
abbrev r1_1 : Rect S3x24 := Rect.unit (s := S3x24) ![0, 0] S3x24.size inb_S3x24_S3x24_0_0
abbrev r1_2 : Rect S256x1 := Rect.unit (s := S256x1) ![0, 0] S256x1.size inb_S256x1_S256x1_0_0
abbrev r1_3 : Rect S1x8 := Rect.unit (s := S1x8) ![0, 0] S1x8.size inb_S1x8_S1x8_0_0

/-! ## What the body leaves in each output window's buffer -/

/-- The result's block, from the input blocks. -/
def out1_4 (x0 : Vec F S256x3 .f32) (x1 : Vec F S256x1 .i32) (x2 : Vec F S3x24 .f32) (x3 : Vec F S1x8 .f32) : Vec F S256x3 .f32 :=
  View.canon [⟨r1_0, k1_pay1 (View.ld x0 r1_0) (View.ld x2 r1_1) (View.ld x1 r1_2) (View.ld x3 r1_3)⟩]

/-- The one store covers the block. -/
theorem cover1_4 (p0 : Vec F S256x3 .f32) (y : S256x3.Idx) :
    ∃ pc ∈ ([⟨r1_0, p0⟩] : List (View.Piece (Elt F) S256x3 .f32)), y ∈ pc.1.set :=
  View.cover_of_tiled [⟨r1_0, p0⟩] S256x3.size (by rfl) y

/-! ## The body's triple -/

set_option maxHeartbeats 1000000 in
/-- The body on any staging blocks. -/
theorem sound_kernel1 (c : Dev nD) (E : Set ℕ) (i : grid1.Coords) (arg1 : Memref sig .tc .vmem S256x3 .f32) (harg1 : arg1.IsWhole) (arg2 : Memref sig .tc .vmem S256x1 .i32) (harg2 : arg2.IsWhole) (arg3 : Memref sig .tc .vmem S3x24 .f32) (harg3 : arg3.IsWhole) (arg4 : Memref sig .tc .vmem S1x8 .f32) (harg4 : arg4.IsWhole) (arg5 : Memref sig .tc .vmem S256x3 .f32) (harg5 : arg5.IsWhole)
    (x0 : Vec F S256x3 .f32) (x1 : Vec F S256x1 .i32) (x2 : Vec F S3x24 .f32) (x3 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__finish_kernel i arg1 harg1 arg2 harg2 arg3 harg3 arg4 harg4 arg5 harg5) K := by
  simp only [cc1__finish_kernel_eq_skeleton]; unfold cc1__finish_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- What the pipeline is proved with: every input block unchanged, the result's block as computed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-! Each input's staging block holds its block at every point, fetched there or not. -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; rfl) t d).trans rfl

/-! ## The body obligation, at a generic point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body returns at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body. -/
theorem defs₀_row1 (t : Fin cfg1.N) :
    defs₀ (F := F) .tc cfg1.body (cfg1.bodyArgs t (cfg1.slots t)) = bodyAt1 t := by
  unfold defs₀; rw [Defs.onTc_tc]

/-- The pipeline's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Knn

end
-- ==== Proof.Whole.lean ====
module

public import proofs.«01_k».proof.Proof.Entry
public import proofs.«01_k».proof.Proof.Finish
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

/-!
# The whole program

The buffers' contents at each boundary of the program — after the host operations before the first call, after the
first call, after those between, after the second call — and the launch: at the end every buffer holds the last
contents.
-/

noncomputable section

namespace Cert.KernelIdeal.Knn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7]

/-! ## The host operations -/

theorem hostOps0_fresh : (hostOps0 : List (HloOp τ sig (Elt F))).Forall fun op => op.fresh = ∅ := by
  simp only [List.Forall]; repeat' constructor
/-- What the operations of `hostOps0` write, in order. -/
abbrev hostOps0_W : List (Ref sig .tc) := [main_v0, main_v1, main_v2, main_v3, main_v4, main_v5, main_v6, main_v7, main_v8, main_v9, main_v10, main_v11, main_v12, main_v13]
theorem hostOps0_writes : (hostOps0 : List (HloOp τ sig (Elt F))).Forall fun op => op.writes ⊆ (hostOps0_W.map (Proc.devRef (τ := τ) .tc)).toFinset :=
  StableHlo.forall_writes_sub_of_map rfl
/-- None of them is an argument. -/
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- What the operations of `hostOps1` write, in order. -/
abbrev hostOps1_W : List (Ref sig .tc) := [main_v15, main_v16, main_v17, main_v18]
theorem hostOps1_writes : (hostOps1 : List (HloOp τ sig (Elt F))).Forall fun op => op.writes ⊆ (hostOps1_W.map (Proc.devRef (τ := τ) .tc)).toFinset :=
  StableHlo.forall_writes_sub_of_map rfl
/-- None of them is an argument. -/
theorem hostOps1_args : ∀ a ∈ argRefs, a ∉ hostOps1_W := ListAll.forall_mem_of_all_decide (by decide +kernel)

/-! ## The buffers' contents at each boundary -/

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, by reference. -/
abbrev V1 : (c : Dev nD) → (b : Ref sig .tc) → Buf (Elt F) ((c : Thread nD τ).loc b) := fun c b => W1 m ρ c b
/-- After the first call: its arrays as the pipeline leaves them. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What is not one of the call's outputs keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- An argument is not an output of the call. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, by reference. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same, by reference. -/
abbrev V3 : (c : Dev nD) → (b : Ref sig .tc) → Buf (Elt F) ((c : Thread nD τ).loc b) := fun c b => W3 m ρ c b
/-- After the second call: its arrays as the pipeline leaves them. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- What is not one of the call's outputs keeps its contents. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- An argument is not an output of the call. -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same, by reference. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The program as a chain of segments -/

abbrev adm : (p : Fin 2) → (pcfgs (F := F) p).Adm := fun p => (cfgs p).toPCfg_adm
/-- What each pipeline is proved with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What is held beside the buffers. -/
abbrev R (c : Dev nD) : sProp 𝕄 := iprop((∃ r, prngReg c r) ∗ ∃ W, owes (c : Thread nD τ) (0 : CellTallies nD τ sig Unit) W)
/-- Host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first call as a segment. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The four segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is their run. -/
theorem main_run (c : Dev nD) : main (F := F) c = Pipeline.Seg.run (segs m ρ) := (main_chain c).trans (by chain_rfl)

/-- Every semaphore is scoped. -/
theorem no_unscoped : ∀ sm : SemLoc sig, sm.isScoped .tc = true := by decide
set_option backward.isDefEq.respectTransparency.types false in
/-- The program runs to its end, with every semaphore at zero and every buffer at the last contents. -/
theorem final : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- At the end an argument holds what it held at launch. -/
theorem kept_arg {mem : (ℓ : Loc nD τ sig) → Buf (Elt F) ℓ} (h : ∀ c : Dev nD, ∀ b ∈ Pipeline.ucRefs τ sig, mem (((c : Thread nD τ)).1, b) = W4 m ρ c b)
    (c : Dev nD) (a : Ref sig .tc) (hu : ¬ (Proc.devRef .tc a : DevRef τ sig).isScoped) (ha : a ∈ argRefs) :
    mem ((c.tc : Thread nD τ).loc a) = m ((c.tc : Thread nD τ).loc a) :=
  (h c _ (mem_uc a hu)).trans (W4_args m ρ c a ha)

/-- The program runs to its end, leaves its arguments as they were, and every semaphore at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨kept_arg m ρ h.1 c main_arg0 (by decide) (by decide),
    kept_arg m ρ h.1 c main_arg1 (by decide) (by decide),
    kept_arg m ρ h.1 c main_arg2 (by decide) (by decide),
    kept_arg m ρ h.1 c main_arg3 (by decide) (by decide),
    kept_arg m ρ h.1 c main_arg4 (by decide) (by decide),
    kept_arg m ρ h.1 c main_arg5 (by decide) (by decide),
    kept_arg m ρ h.1 c main_arg6 (by decide) (by decide),
    kept_arg m ρ h.1 c main_arg7 (by decide) (by decide)⟩, h.2⟩) (final m ρ)

end Cert.KernelIdeal.Knn

end
-- ==== Proof.Rank.lean ====
/- Ranks in a finite set of things ordered by an injective key: how many members come before a given one. -/
module

public import Mathlib.Data.EReal.Basic
public import Mathlib.Data.Prod.Lex
public import Mathlib.Data.Finset.Image
public import Mathlib.Data.Finset.Card
public import Mathlib.Order.Interval.Finset.Nat

@[expose] public section

noncomputable section

namespace Cert.Knn

open Finset

variable {ι α : Type} [LinearOrder α] [DecidableEq ι]

/-- How many members of `A` have a smaller key than `j`. -/
def rank (κ : ι → α) (A : Finset ι) (j : ι) : ℕ := (A.filter fun i => κ i < κ j).card

/-- A smaller key has no larger rank. -/
theorem rank_mono (κ : ι → α) (A : Finset ι) {i j : ι} (h : κ i ≤ κ j) : rank κ A i ≤ rank κ A j :=
  card_le_card fun x hx => by
    rw [mem_filter] at hx ⊢; exact ⟨hx.1, lt_of_lt_of_le hx.2 h⟩

/-- A member with a smaller key has a smaller rank. -/
theorem rank_strict (κ : ι → α) (A : Finset ι) {i j : ι} (hi : i ∈ A) (h : κ i < κ j) : rank κ A i < rank κ A j :=
  card_lt_card ⟨fun x hx => by rw [mem_filter] at hx ⊢; exact ⟨hx.1, lt_trans hx.2 h⟩,
    fun hs => lt_irrefl (κ i) (mem_filter.1 (hs (mem_filter.2 ⟨hi, h⟩))).2⟩

/-- Ranks tell the order of the keys. -/
theorem key_lt_of_rank_lt (κ : ι → α) (A : Finset ι) {i j : ι} (h : rank κ A i < rank κ A j) : κ i < κ j := by
  by_contra hn; exact absurd (rank_mono κ A (not_lt.1 hn)) (not_le.2 h)

/-- Two members of equal rank are one. -/
theorem rank_inj {κ : ι → α} (hκ : Function.Injective κ) {A : Finset ι} {i j : ι} (hi : i ∈ A) (hj : j ∈ A)
    (h : rank κ A i = rank κ A j) : i = j := by
  rcases lt_trichotomy (κ i) (κ j) with hl | he | hl
  · exact absurd h (rank_strict κ A hi hl).ne
  · exact hκ he
  · exact absurd h (rank_strict κ A hj hl).ne'

/-- A member's rank is below the number of members. -/
theorem rank_lt_card (κ : ι → α) {A : Finset ι} {j : ι} (hj : j ∈ A) : rank κ A j < A.card :=
  card_lt_card ⟨filter_subset _ _, fun hs => lt_irrefl (κ j) (mem_filter.1 (hs hj)).2⟩

/-- Every rank below the number of members is some member's. -/
theorem exists_rank {κ : ι → α} (hκ : Function.Injective κ) {A : Finset ι} {t : ℕ} (ht : t < A.card) :
    ∃ j ∈ A, rank κ A j = t := by
  have hs : A.image (rank κ A) ⊆ range A.card := fun x hx => by
    obtain ⟨j, hj, rfl⟩ := mem_image.1 hx
    exact mem_range.2 (rank_lt_card κ hj)
  have hc : (A.image (rank κ A)).card = A.card :=
    card_image_of_injOn fun i hi j hj h => rank_inj hκ hi hj h
  have he := eq_of_subset_of_card_le hs (by rw [hc, card_range])
  obtain ⟨j, hj, h⟩ := mem_image.1 (he ▸ mem_range.2 ht : t ∈ A.image (rank κ A))
  exact ⟨j, hj, h⟩

/-- Leaving out members which at least `n` others precede changes no rank below `n`. -/
theorem rank_sub {κ : ι → α} {B C : Finset ι} (hs : B ⊆ C) {n : ℕ} (ho : ∀ x ∈ C, x ∉ B → n ≤ rank κ B x)
    {j : ι} (hj : rank κ B j < n) : rank κ C j = rank κ B j := by
  unfold rank
  congr 1
  ext x
  simp only [mem_filter]
  refine ⟨fun ⟨hx, hl⟩ => ⟨?_, hl⟩, fun ⟨hx, hl⟩ => ⟨hs hx, hl⟩⟩
  by_contra hn
  exact absurd (ho x hx hn) (not_le.2 (lt_of_le_of_lt (rank_mono κ B hl.le) hj))

/-- A map that keeps the order of the keys keeps the ranks. -/
theorem rank_image {ι' α' : Type} [LinearOrder α'] [DecidableEq ι'] {κ : ι → α} {κ' : ι' → α'}
    (hκ : Function.Injective κ) (f : ι → ι') {A : Finset ι}
    (hf : ∀ i ∈ A, ∀ j ∈ A, κ i < κ j ↔ κ' (f i) < κ' (f j)) {j : ι} (hj : j ∈ A) :
    rank κ' (A.image f) (f j) = rank κ A j := by
  unfold rank
  have hi : Set.InjOn f A := fun a ha b hb h => by
    rcases lt_trichotomy (κ a) (κ b) with hl | he | hl
    · exact absurd ((hf a ha b hb).1 hl) (by rw [h]; exact lt_irrefl _)
    · exact hκ he
    · exact absurd ((hf b hb a ha).1 hl) (by rw [h]; exact lt_irrefl _)
  have : (A.image f).filter (fun i => κ' i < κ' (f j)) = (A.filter fun i => κ i < κ j).image f := by
    ext x
    simp only [mem_filter, mem_image]
    constructor
    · rintro ⟨⟨a, ha, rfl⟩, hl⟩; exact ⟨a, ⟨ha, (hf a ha j hj).2 hl⟩, rfl⟩
    · rintro ⟨a, ⟨ha, hl⟩, rfl⟩; exact ⟨⟨a, ha, rfl⟩, (hf a ha j hj).1 hl⟩
  rw [this, card_image_of_injOn (hi.mono fun x hx => (mem_filter.1 (mem_coe.1 hx)).1)]

/-- Of `A` keep the `n` first, add `W`: what is among the `n` first of the lot is there among the `n` first of `A ∪ W`,
at the same rank. -/
theorem rank_merge {κ : ι → α} (hκ : Function.Injective κ) {A W : Finset ι} {n : ℕ} {r : ℕ → ι}
    (hr : ∀ i < n, r i ∈ A ∧ rank κ A (r i) = i) {j : ι} (hj : rank κ ((range n).image r ∪ W) j < n) :
    rank κ (A ∪ W) j = rank κ ((range n).image r ∪ W) j := by
  refine rank_sub ?_ ?_ hj
  · refine union_subset_union (fun x hx => ?_) (le_refl _)
    obtain ⟨i, hi, rfl⟩ := mem_image.1 hx
    exact (hr i (mem_range.1 hi)).1
  · intro x hx hn
    rw [mem_union, not_or] at hn
    have hxA : x ∈ A := (mem_union.1 hx).resolve_right hn.2
    have hge : n ≤ rank κ A x := by
      by_contra hlt
      have hlt := not_le.1 hlt
      refine hn.1 (mem_image.2 ⟨rank κ A x, mem_range.2 hlt, ?_⟩)
      exact rank_inj hκ (hr _ hlt).1 hxA (hr _ hlt).2
    have hc : ((range n).image r).card = n := by
      rw [card_image_of_injOn, card_range]
      intro a ha b hb h
      have := congrArg (rank κ A) h
      rwa [(hr a (mem_range.1 ha)).2, (hr b (mem_range.1 hb)).2] at this
    refine hc.symm.le.trans (card_le_card fun y hy => ?_)
    rw [mem_filter]
    refine ⟨mem_union_left _ hy, ?_⟩
    obtain ⟨i, hi, rfl⟩ := mem_image.1 hy
    refine key_lt_of_rank_lt κ A ?_
    rw [(hr i (mem_range.1 hi)).2]
    exact lt_of_lt_of_le (mem_range.1 hi) hge

/-- The key of thing number `j` with value `D j`: the value, then the number. -/
def key (D : ℕ → EReal) (j : ℕ) : EReal ×ₗ ℕ := toLex (D j, j)

theorem key_inj (D : ℕ → EReal) : Function.Injective (key D) := fun i j h => by
  have := congrArg (fun x => (ofLex x).2) h; exact this

theorem key_lt (D : ℕ → EReal) (i j : ℕ) : key D i < key D j ↔ D i < D j ∨ (D i = D j ∧ i < j) := by
  unfold key; rw [Prod.Lex.toLex_lt_toLex]

end Cert.Knn

end
-- ==== Proof.Round.lean ====
/- One round of the selection over the extended reals, and the sixteen rounds of a trip: round `n` takes the candidate of
rank `n`, by value and then by identifier. -/
module

public import proofs.«01_k».proof.Proof.Trip
public import proofs.«01_k».proof.Proof.Rank
public import Idealize.ShloMosaic.Lib.Pointwise

@[expose] public section

set_option maxRecDepth 16384

noncomputable section

namespace Cert.KernelIdeal.Knn

open Cert.KernelIdeal Cert.KernelIdeal.Gen Idealize.ShloMosaic Cert.Knn

/-- The word of plus infinity. -/
theorem word_inf : Ideal.ofBits .f32 0x7F800000#32 = ⊤ := by
  simp [Ideal.ofBits, Ideal.ieee]

/-- The value of a largest finite word. -/
def big : EReal := Ideal.ofBits .f32 0x7F7FFFFF#32

theorem big_eq : big = ((2 ^ 128 - 2 ^ 104 : ℝ) : EReal) := by
  unfold big
  simp [Ideal.ofBits, Ideal.ieee]
  have : (16777215 : ℝ) * 2 ^ 104 = 2 ^ 128 - 2 ^ 104 := by norm_num
  exact_mod_cast congrArg (fun x : ℝ => (x : EReal)) this

/-- A word's number of a candidate: the running ones come before the window's. -/
def ident (p : Fin 528) : ℕ := if p.val < 512 then p.val + 16 else p.val - 512

theorem ident_lt (p : Fin 528) : ident p < 528 := by unfold ident; split <;> omega

theorem ident_inj : Function.Injective ident := fun p q h => by
  unfold ident at h; apply Fin.ext; split at h <;> split at h <;> omega

/-- The identifier the kernel writes down. -/
theorem ident_word (i : Fin 256) (p : Fin 528) : k0_pay268 (ix2 i p) = BitVec.ofNat 32 (ident p) := by
  pointwise [k0_pay268]
  unfold ident
  split
  · rw [show IntOp.addi (BitVec.ofNat 32 p.val) 16#32 = BitVec.ofNat 32 p.val + BitVec.ofNat 32 16 from rfl, ← BitVec.ofNat_add]
  · rfl

/-- The order of candidates: by value, then by identifier. -/
def candKey (a : Fin 528 → EReal) (p : Fin 528) : EReal ×ₗ ℕ := toLex (a p, ident p)

theorem candKey_inj (a : Fin 528 → EReal) : Function.Injective (candKey a) := fun p q h =>
  ident_inj (congrArg (fun x => (ofLex x).2) h)

theorem candKey_lt (a : Fin 528 → EReal) (p q : Fin 528) :
    candKey a p < candKey a q ↔ a p < a q ∨ (a p = a q ∧ ident p < ident q) := by
  unfold candKey; rw [Prod.Lex.toLex_lt_toLex]

/-- A fold of the signed minimum that meets a least word is that word. -/
theorem fold_least {ι : Type} [DecidableEq ι] (g : ι → BitVec 32) (s : Finset ι) (init w : BitVec 32)
    (h0 : w.toInt ≤ init.toInt) (h1 : ∃ x ∈ s, g x = w) (h2 : ∀ x ∈ s, w.toInt ≤ (g x).toInt) :
    s.fold IntOp.minsi init g = w := by
  apply BitVec.eq_of_toInt_eq
  have hm : ∀ x y : BitVec 32, (IntOp.minsi x y).toInt = min x.toInt y.toInt := fun x y => by
    simp only [IntOp.minsi, BitVec.slt, decide_eq_true_eq]
    split <;> omega
  rw [← Finset.fold_hom (op' := min) hm]
  apply le_antisymm
  · obtain ⟨x, hx, rfl⟩ := h1
    exact (Finset.fold_min_le _).2 (.inr ⟨x, hx, le_refl _⟩)
  · exact (Finset.le_fold_min _).2 ⟨h0, h2⟩

variable (a : FVec Ideal S256x528 .f32) (i : Fin 256)

/-- A candidate that comes before all others is the least. -/
theorem least_at (p₀ : Fin 528) (h : ∀ p, a (ix2 i p₀) ≤ a (ix2 i p)) (z : Fin 1) :
    least (F := Ideal) a (ix2 i z) = a (ix2 i p₀) := by
  pointwise [least]
  rw [word_inf]
  exact le_antisymm ((Finset.fold_min_le _).2 (.inr ⟨p₀, Finset.mem_univ _, le_refl _⟩))
    ((Finset.le_fold_min _).2 ⟨le_top, fun p _ => h p⟩)

/-- A candidate that comes before all others, by value and then by identifier, is the one marked. -/
theorem mark_at (p₀ : Fin 528)
    (h : ∀ p, p ≠ p₀ → a (ix2 i p₀) < a (ix2 i p) ∨ (a (ix2 i p₀) = a (ix2 i p) ∧ ident p₀ < ident p)) (p : Fin 528) :
    mark (F := Ideal) a (ix2 i p) = if p = p₀ then 1#1 else 0#1 := by
  have hle : ∀ p, a (ix2 i p₀) ≤ a (ix2 i p) := fun p => by
    by_cases hp : p = p₀
    · rw [hp]
    · rcases h p hp with h | h
      · exact h.le
      · exact h.1.le
  have hti : ∀ q : Fin 528, (BitVec.ofNat 32 (ident q)).toInt = (ident q : ℤ) := fun q => by
    have := ident_lt q
    rw [BitVec.toInt_ofNat', Int.bmod_eq_of_le] <;> omega
  have hw : Finset.univ.fold IntOp.minsi (2147483647#32)
      (fun x : Fin 528 => if a (ix2 i x) = least (F := Ideal) a (ix2 i 0) then k0_pay268 (ix2 i x) else 2147483647#32)
      = BitVec.ofNat 32 (ident p₀) := by
    have hp₀ := ident_lt p₀
    refine fold_least _ _ _ _ ?_ ⟨p₀, Finset.mem_univ _, ?_⟩ fun x _ => ?_
    · rw [hti]; show (ident p₀ : ℤ) ≤ 2147483647; omega
    · show (if _ then _ else _) = _
      rw [least_at a i p₀ hle, if_pos rfl, ident_word]
    · show _ ≤ BitVec.toInt (if _ then _ else _)
      rw [least_at a i p₀ hle]
      split
      · rename_i he
        rw [ident_word, hti, hti]
        by_cases hx : x = p₀
        · rw [hx]
        · rcases h x hx with h | h
          · exact absurd he h.ne'
          · exact_mod_cast h.2.le
      · rw [hti]; show (ident p₀ : ℤ) ≤ 2147483647; omega
  pointwise [mark]
  rw [hw, ident_word]
  by_cases hp : p = p₀
  · rw [if_pos hp, hp]; simp [IntOp.cmpi]
  · rw [if_neg hp]
    have hne : BitVec.ofNat 32 (ident p) ≠ BitVec.ofNat 32 (ident p₀) := fun he => hp (ident_inj (by
      have := congrArg BitVec.toInt he
      rw [hti, hti] at this; exact_mod_cast this))
    show BitVec.ofBool (_ == _) = 0#1
    rw [beq_eq_false_iff_ne.2 hne]; rfl

/-- The marked candidate is struck out, the others stay. -/
theorem strike_at (p₀ p : Fin 528) (hm : mark (F := Ideal) a (ix2 i p) = if p = p₀ then 1#1 else 0#1) :
    strike (F := Ideal) a (ix2 i p) = if p = p₀ then ⊤ else a (ix2 i p) := by
  pointwise [strike]
  rw [hm]
  by_cases hp : p = p₀
  · rw [if_pos hp, if_pos hp]; exact word_inf
  · rw [if_neg hp, if_neg hp]; rfl

/-- A mark as a number. -/
theorem mark_number (b : Prop) [Decidable b] :
    (FloatOps.sitofp .f32 (BitVec.setWidth 32 (if b then 1#1 else 0#1)) : Ideal .f32) = if b then (1 : EReal) else 0 := by
  split
  · show (((BitVec.setWidth 32 1#1).toInt : ℝ) : EReal) = 1
    rw [show (BitVec.setWidth 32 1#1).toInt = 1 from by decide]; simp
  · show (((BitVec.setWidth 32 0#1).toInt : ℝ) : EReal) = 0
    rw [show (BitVec.setWidth 32 0#1).toInt = 0 from by decide]; simp

/-- The product with the marks reads the window at the marked candidate. -/
theorem fromWindow_at (w : Vec Ideal S512x3 .f32) (p₀ : Fin 528)
    (hm : ∀ p, mark (F := Ideal) a (ix2 i p) = if p = p₀ then 1#1 else 0#1) (c : Fin 3) :
    fromWindow (F := Ideal) w a (ix2 i c) = if h : p₀.val < 512 then w (ix2 ⟨p₀.val, h⟩ c) else 0 := by
  pointwise [fromWindow]
  simp only [hm, mark_number]
  split
  · rename_i h
    rw [Finset.sum_eq_single ⟨p₀.val, h⟩]
    · exact (congrArg (fun t : EReal => t * w (ix2 ⟨p₀.val, h⟩ c)) (if_pos (Fin.ext rfl))).trans (one_mul _)
    · intro x _ hx
      exact (congrArg (fun t : EReal => t * w (ix2 x c))
        (if_neg (fun he => hx (Fin.ext (show x.val = p₀.val from congrArg Fin.val he))))).trans (zero_mul _)
    · intro h; exact absurd (Finset.mem_univ _) h
  · rename_i h
    refine Finset.sum_eq_zero fun x _ => ?_
    exact (congrArg (fun t : EReal => t * w (ix2 x c)) (if_neg (fun he => h (by
      have : x.val = p₀.val := congrArg Fin.val he
      omega)))).trans (zero_mul _)

/-- The sum over the running marks reads the running entry that is marked. -/
theorem fromRun_at (w : FVec Ideal S256x16 .f32) (p₀ : Fin 528)
    (hm : ∀ p, mark (F := Ideal) a (ix2 i p) = if p = p₀ then 1#1 else 0#1) (z : Fin 1) :
    fromRun (F := Ideal) w a (ix2 i z) = if h : p₀.val < 512 then 0 else w (ix2 i ⟨p₀.val - 512, by omega⟩) := by
  pointwise [fromRun]
  simp only [hm, mark_number]
  split
  · rename_i h
    refine Finset.sum_eq_zero fun x _ => ?_
    exact (congrArg (fun t : EReal => t * w (ix2 i x)) (if_neg (fun he => by
      have : 512 + x.val = p₀.val := congrArg Fin.val he
      omega))).trans (zero_mul _)
  · rename_i h
    rw [Finset.sum_eq_single ⟨p₀.val - 512, by omega⟩]
    · exact (congrArg (fun t : EReal => t * w (ix2 i ⟨p₀.val - 512, by omega⟩))
        (if_pos (Fin.ext (by show 512 + (p₀.val - 512) = p₀.val; omega)))).trans (one_mul _)
    · intro x _ hx
      exact (congrArg (fun t : EReal => t * w (ix2 i x)) (if_neg (fun he => hx (Fin.ext (by
        have : 512 + x.val = p₀.val := congrArg Fin.val he
        show x.val = p₀.val - 512; omega))))).trans (zero_mul _)
    · intro h; exact absurd (Finset.mem_univ _) h

/-- A marked candidate's coordinate is the window's or the running one. -/
theorem coordX_at (w : Vec Ideal S512x3 .f32) (a : FVec Ideal S256x528 .f32) (r : FVec Ideal S256x16 .f32) (i : Fin 256) :
    coordX w r a (ix2 i 0)
      = (fromWindow (F := Ideal) w a (ix2 i 0) + fromRun (F := Ideal) r a (ix2 i 0) : EReal) := by
  pointwise [coordX]

theorem coordY_at (w : Vec Ideal S512x3 .f32) (a : FVec Ideal S256x528 .f32) (r : FVec Ideal S256x16 .f32) (i : Fin 256) :
    coordY w r a (ix2 i 0)
      = (fromWindow (F := Ideal) w a (ix2 i 1) + fromRun (F := Ideal) r a (ix2 i 0) : EReal) := by
  pointwise [coordY]

theorem coordZ_at (w : Vec Ideal S512x3 .f32) (a : FVec Ideal S256x528 .f32) (r : FVec Ideal S256x16 .f32) (i : Fin 256) :
    coordZ w r a (ix2 i 0)
      = (fromWindow (F := Ideal) w a (ix2 i 2) + fromRun (F := Ideal) r a (ix2 i 0) : EReal) := by
  pointwise [coordZ]

/-- Column `n` of sixteen side by side. -/
theorem beside_at {F : FTy → Type} [FloatOps F] (f : ℕ → FVec F S256x1 .f32) (n : Fin 16) :
    beside f (ix2 i n) = f n.val (ix2 i 0) := by
  refine concatenate_ofFn_unit_apply (t := S256x16) (s₁ := S256x1) 1 (fun k : Fin 16 => f k.val)
    concatenates_S256x1_S256x1_S256x1_S256x1_S256x1_S256x1_S256x1_S256x1_S256x1_S256x1_S256x1_S256x1_S256x1_S256x1_S256x1_S256x1_S256x16_d1
    rfl rfl (ix2 i n) n rfl (ix2 i 0) ?_
  intro b hb
  match b with
  | ⟨0, _⟩ => rfl
  | ⟨1, _⟩ => exact absurd rfl hb

/-! ## Sixteen rounds -/

variable (hfin : ∀ p : Fin 528, p.val < 512 → a (ix2 i p) < ⊤)
include hfin

/-- A candidate among the first sixteen has a finite value. -/
theorem finite_of_rank {p : Fin 528} (hp : rank (candKey fun p => a (ix2 i p)) Finset.univ p < 16) : a (ix2 i p) < ⊤ := by
  by_contra hn
  have hp' : a (ix2 i p) = ⊤ := not_lt_top_iff.1 hn
  have : (Finset.univ.image (Fin.castLE (by decide) : Fin 512 → Fin 528)).card
      ≤ rank (candKey fun p => a (ix2 i p)) Finset.univ p := by
    refine Finset.card_le_card fun x hx => ?_
    obtain ⟨y, _, rfl⟩ := Finset.mem_image.1 hx
    rw [Finset.mem_filter, candKey_lt]
    exact ⟨Finset.mem_univ _, .inl (lt_of_lt_of_eq (hfin _ y.isLt) hp'.symm)⟩
  rw [Finset.card_image_of_injective _ (Fin.castLE_injective _)] at this
  simp at this; omega

/-- The rounds, together: before round `n` the candidates of rank below `n` are struck out; round `n` marks the one of rank
`n`. -/
theorem rounds (n : ℕ) (hn : n ≤ 16) :
    (∀ p, after a n (ix2 i p)
      = if rank (candKey fun p => a (ix2 i p)) Finset.univ p < n then ⊤ else a (ix2 i p)) := by
  induction n with
  | zero => intro p; rfl
  | succ n ih =>
    have ih := ih (by omega)
    obtain ⟨p₀, _, hp₀⟩ := exists_rank (candKey_inj fun p => a (ix2 i p)) (A := Finset.univ)
      (t := n) (by rw [Finset.card_univ, Fintype.card_fin]; omega)
    have hm := mark_at (after a n) i p₀ (fun p hp => by
      have hf := finite_of_rank a i hfin (p := p₀) (by omega)
      rw [ih, ih, if_neg (by omega)]
      split
      · exact .inl hf
      · rename_i h
        refine (candKey_lt (fun p => a (ix2 i p)) _ _).1 (key_lt_of_rank_lt _ Finset.univ ?_)
        rcases Nat.lt_or_eq_of_le (not_lt.1 h) with h | h
        · omega
        · exact absurd (rank_inj (candKey_inj _) (Finset.mem_univ _) (Finset.mem_univ _) (h.symm.trans hp₀.symm)) hp)
    intro p
    show strike (after a n) (ix2 i p) = _
    rw [strike_at (after a n) i p₀ p (hm p), ih]
    by_cases hp : p = p₀
    · rw [if_pos hp, if_pos (by rw [hp, hp₀]; omega)]
    · rw [if_neg hp]
      have : rank (candKey fun p => a (ix2 i p)) Finset.univ p ≠ n := fun h =>
        hp (rank_inj (candKey_inj _) (Finset.mem_univ _) (Finset.mem_univ _) (h.trans hp₀.symm))
      by_cases hl : rank (candKey fun p => a (ix2 i p)) Finset.univ p < n
      · rw [if_pos hl, if_pos (by omega)]
      · rw [if_neg hl, if_neg (by omega)]

/-- Round `n` marks the candidate of rank `n`, and its least is that candidate's value. -/
theorem round_at {n : ℕ} (hn : n < 16) {p₀ : Fin 528}
    (hp₀ : rank (candKey fun p => a (ix2 i p)) Finset.univ p₀ = n) :
    (∀ z, least (F := Ideal) (after a n) (ix2 i z) = a (ix2 i p₀))
      ∧ ∀ p, mark (F := Ideal) (after a n) (ix2 i p) = if p = p₀ then 1#1 else 0#1 := by
  have ih := rounds a i hfin n (by omega)
  have hf := finite_of_rank a i hfin (p := p₀) (by omega)
  have h : ∀ p, p ≠ p₀ → after a n (ix2 i p₀) < after a n (ix2 i p)
      ∨ (after a n (ix2 i p₀) = after a n (ix2 i p) ∧ ident p₀ < ident p) := fun p hp => by
    rw [ih, ih, if_neg (by omega)]
    split
    · exact .inl hf
    · rename_i h
      refine (candKey_lt (fun p => a (ix2 i p)) _ _).1 (key_lt_of_rank_lt _ Finset.univ ?_)
      rcases Nat.lt_or_eq_of_le (not_lt.1 h) with h | h
      · omega
      · exact absurd (rank_inj (candKey_inj _) (Finset.mem_univ _) (Finset.mem_univ _) (h.symm.trans hp₀.symm)) hp
  refine ⟨fun z => ?_, mark_at _ i p₀ h⟩
  rw [least_at (after a n) i p₀ (fun p => ?_), ih, if_neg (by omega)]
  by_cases hp : p = p₀
  · rw [hp]
  · rcases h p hp with h | h
    · exact h.le
    · exact h.1.le

/-- What a trip yields in slot `n`: the value of the candidate of rank `n`, and its coordinates, from the window if it is
one of the window's, from the running blocks otherwise. -/
theorem chosen_at (w : Vec Ideal S512x3 .f32) (r : Run Ideal) (n : Fin 16) {p₀ : Fin 528}
    (hp₀ : rank (candKey fun p => a (ix2 i p)) Finset.univ p₀ = n.val) :
    (chosen w a r).1 (ix2 i n) = a (ix2 i p₀)
      ∧ (chosen w a r).2.1 (ix2 i n)
          = (if h : p₀.val < 512 then w (ix2 ⟨p₀.val, h⟩ 0) else r.2.1 (ix2 i ⟨p₀.val - 512, by omega⟩) : EReal)
      ∧ (chosen w a r).2.2.1 (ix2 i n)
          = (if h : p₀.val < 512 then w (ix2 ⟨p₀.val, h⟩ 1) else r.2.2.1 (ix2 i ⟨p₀.val - 512, by omega⟩) : EReal)
      ∧ (chosen w a r).2.2.2 (ix2 i n)
          = (if h : p₀.val < 512 then w (ix2 ⟨p₀.val, h⟩ 2) else r.2.2.2 (ix2 i ⟨p₀.val - 512, by omega⟩) : EReal) := by
  obtain ⟨hl, hm⟩ := round_at a i hfin n.isLt hp₀
  have hsum : ∀ (r : FVec Ideal S256x16 .f32) (c : Fin 3),
      (fromWindow (F := Ideal) w (after a n.val) (ix2 i c) + fromRun (F := Ideal) r (after a n.val) (ix2 i 0) : EReal)
        = (if h : p₀.val < 512 then w (ix2 ⟨p₀.val, h⟩ c) else r (ix2 i ⟨p₀.val - 512, by omega⟩) : EReal) := fun r c => by
    rw [fromWindow_at _ i w p₀ hm, fromRun_at _ i r p₀ hm]
    by_cases h : p₀.val < 512
    · rw [dif_pos h, dif_pos h, dif_pos h, add_zero]
    · rw [dif_neg h, dif_neg h, dif_neg h, zero_add]
  refine ⟨(beside_at i (fun n => least (F := Ideal) (after a n)) n).trans (hl 0),
    (beside_at i (fun n => coordX (F := Ideal) w r.2.1 (after a n)) n).trans ?_,
    (beside_at i (fun n => coordY (F := Ideal) w r.2.2.1 (after a n)) n).trans ?_,
    (beside_at i (fun n => coordZ (F := Ideal) w r.2.2.2 (after a n)) n).trans ?_⟩
  · exact (coordX_at w (after a n.val) r.2.1 i).trans (hsum r.2.1 0)
  · exact (coordY_at w (after a n.val) r.2.2.1 i).trans (hsum r.2.2.1 1)
  · exact (coordZ_at w (after a n.val) r.2.2.2 i).trans (hsum r.2.2.2 2)

end Cert.KernelIdeal.Knn

end
-- ==== Proof.Select.lean ====
/- The nearest sixteen by windows: what a sweep that keeps the sixteen first of what it has seen ends with. -/
module

public import proofs.«01_k».proof.Proof.Rank

@[expose] public section

noncomputable section

namespace Cert.Knn

open Finset

/-- The values of the numbers a sweep meets: `0 … 15` are the entries it starts from, `16 + j` is point `j`; a point too
far has the value `M`, as have the first entries unless the sweep starts at the first point. -/
def seenValue (E : ℕ → EReal) (M : EReal) (lo : ℕ) (ν : ℕ) : EReal :=
  if ν < 16 then (if lo = 0 then ⊤ else M) else min (E (ν - 16)) M

/-- What a sweep from window `lo` has met after `n` windows of 512 points. -/
def seen (lo n : ℕ) : Finset ℕ := range 16 ∪ Ico (16 + 512 * lo) (16 + 512 * (lo + n))

theorem seen_succ (lo n : ℕ) : seen lo (n + 1) = seen lo n ∪ Ico (16 + 512 * (lo + n)) (16 + 512 * (lo + n) + 512) := by
  unfold seen
  ext x
  simp only [mem_union, mem_range, mem_Ico]
  omega

/-- The first entries are in order. -/
theorem rank_start (E : ℕ → EReal) (M : EReal) (lo i : ℕ) (hi : i < 16) :
    i ∈ seen lo 0 ∧ rank (key (seenValue E M lo)) (seen lo 0) i = i := by
  constructor
  · simp [seen, hi]
  · have : (seen lo 0).filter (fun x => key (seenValue E M lo) x < key (seenValue E M lo) i) = range i := by
      ext x
      simp only [mem_filter, mem_range, seen, mem_union, mem_Ico, Nat.add_zero, key_lt, seenValue, hi, if_true]
      constructor
      · rintro ⟨h, h'⟩
        have hx : x < 16 := by omega
        simp [hx] at h'; omega
      · intro h
        have hx : x < 16 := by omega
        simp [hx]; omega
    unfold rank
    rw [this, card_range]

/-- The point a number stands for. -/
def point (ν : ℕ) : ℕ := if ν < 16 then ν else ν - 16

/-- A sweep that met every near point ends with the sixteen first of all points. -/
theorem rank_final (E : ℕ → EReal) (M : EReal) (lo T : ℕ) (hM : M < ⊤) (hE : ∀ j < 8192, E j < M ∨ E j = ⊤)
    (hT : 0 < T) (hN : 512 * (lo + T) ≤ 8192) (hnear : ∀ j < 8192, E j < M → 512 * lo ≤ j ∧ j < 512 * (lo + T))
    {ν i : ℕ} (hi : i < 16) (hν : ν ∈ seen lo T) (hr : rank (key (seenValue E M lo)) (seen lo T) ν = i) :
    (16 ≤ ν ∨ lo ≠ 0) ∧ point ν < 8192 ∧ rank (key E) (range 8192) (point ν) = i := by
  set D := seenValue E M lo with hD
  -- the entries that stand for points
  set C := (seen lo T).filter (fun x => 16 ≤ x ∨ lo ≠ 0) with hC
  have hcard : 16 ≤ C.card := by
    have : Ico (16 + 512 * lo) (16 + 512 * (lo + T)) ⊆ C := fun x hx => by
      rw [mem_Ico] at hx
      simp only [hC, mem_filter, seen, mem_union, mem_Ico]; omega
    have := card_le_card this
    rw [Nat.card_Ico] at this; omega
  have hDlt : ∀ x ∈ C, D x < ⊤ := fun x hx => by
    simp only [hC, mem_filter] at hx
    simp only [hD, seenValue]
    split
    · rw [if_neg (by omega)]; exact hM
    · exact lt_of_le_of_lt (min_le_right _ _) hM
  have hsub : ∀ {j : ℕ}, rank (key D) C j < 16 → rank (key D) (seen lo T) j = rank (key D) C j := by
    intro j hj
    refine rank_sub (filter_subset _ _) (fun x hx hn => le_trans hcard ?_) hj
    have hx16 : x < 16 ∧ lo = 0 := by
      simp only [hC, mem_filter] at hn
      constructor <;> by_contra h <;> exact hn ⟨hx, by omega⟩
    unfold rank
    rw [filter_true_of_mem]
    intro y hy
    rw [key_lt]; left
    refine lt_of_lt_of_eq (hDlt y hy) ?_
    simp [hD, seenValue, hx16]
  obtain ⟨μ, hμ, hμr⟩ := exists_rank (key_inj D) (lt_of_lt_of_le hi hcard)
  have hμν : μ = ν := by
    refine rank_inj (key_inj D) (mem_filter.1 hμ).1 hν ?_
    rw [hsub (by omega), hμr, hr]
  subst hμν
  -- the points they stand for are in the same order
  have hlt8 : ∀ x ∈ C, point x < 8192 := fun x hx => by
    simp only [hC, mem_filter, seen, mem_union, mem_range, mem_Ico] at hx
    unfold point; split <;> omega
  have hval : ∀ x ∈ C, D x = min (E (point x)) M := fun x hx => by
    have h8 := hlt8 x hx
    simp only [hC, mem_filter] at hx
    unfold point at h8 ⊢
    simp only [hD, seenValue]
    split
    · rename_i h16
      rw [if_pos h16] at h8
      have : E x = ⊤ := (hE x h8).resolve_left fun h => by
        have := hnear x h8 h; omega
      rw [if_neg (by omega), this, min_eq_right hM.le]
    · rfl
  have hord : ∀ x ∈ C, ∀ y ∈ C, key D x < key D y ↔ key E (point x) < key E (point y) := by
    intro x hx y hy
    rw [key_lt, key_lt, hval x hx, hval y hy]
    have hp : x < y ↔ point x < point y := by
      simp only [hC, mem_filter, seen, mem_union, mem_range, mem_Ico] at hx hy
      unfold point; split <;> split <;> omega
    rw [← hp]
    rcases hE _ (hlt8 x hx) with h1 | h1 <;> rcases hE _ (hlt8 y hy) with h2 | h2
    · rw [min_eq_left h1.le, min_eq_left h2.le]
    · rw [min_eq_left h1.le, h2, min_eq_right hM.le]
      simp [h1, lt_trans h1 hM]
    · rw [min_eq_left h2.le, h1, min_eq_right hM.le]
      simp [not_lt.2 h2.le, h2.ne', (lt_trans h2 hM).ne']
    · rw [h1, h2]; simp
  refine ⟨(mem_filter.1 hμ).2, hlt8 μ hμ, ?_⟩
  have himg := rank_image (key_inj D) point hord hμ
  rw [hμr] at himg
  rw [← himg]
  refine rank_sub (fun x hx => ?_) (n := 16) (fun x hx hn => ?_) (by omega)
  · obtain ⟨y, hy, rfl⟩ := mem_image.1 hx
    exact mem_range.2 (hlt8 y hy)
  · have hx8 := mem_range.1 hx
    have hin : ∀ z, (z < 16 ∨ (512 * lo ≤ z ∧ z < 512 * (lo + T))) → z ∈ C.image point := by
      intro z hz
      by_cases hw : 512 * lo ≤ z ∧ z < 512 * (lo + T)
      · refine mem_image.2 ⟨z + 16, ?_, by unfold point; rw [if_neg (by omega)]; omega⟩
        simp only [hC, mem_filter, seen, mem_union, mem_range, mem_Ico]; omega
      · refine mem_image.2 ⟨z, ?_, by unfold point; rw [if_pos (by omega)]⟩
        simp only [hC, mem_filter, seen, mem_union, mem_range, mem_Ico]
        have : lo ≠ 0 := by rintro rfl; omega
        omega
    have hxo : ¬ (x < 16 ∨ (512 * lo ≤ x ∧ x < 512 * (lo + T))) := fun h => hn (hin x h)
    have hxE : E x = ⊤ := (hE x hx8).resolve_left fun h => hxo (.inr (hnear x hx8 h))
    rw [← card_range 16]
    refine card_le_card fun z hz => ?_
    have hz := mem_range.1 hz
    rw [mem_filter]
    refine ⟨hin z (.inl hz), ?_⟩
    rw [key_lt, hxE]
    rcases eq_or_ne (E z) ⊤ with h | h
    · exact .inr ⟨h, by omega⟩
    · exact .inl (lt_top_iff_ne_top.2 h)

end Cert.Knn

end
-- ==== Proof.Step.lean ====
/- One window of the sweep, for one of the block's points: the running blocks hold the sixteen first of what was seen. -/
module

public import proofs.«01_k».proof.Proof.Round
public import proofs.«01_k».proof.Proof.Select

@[expose] public section

set_option maxRecDepth 16384

noncomputable section

namespace Cert.KernelIdeal.Knn

open Cert.KernelIdeal Cert.KernelIdeal.Gen Idealize.ShloMosaic Cert.Knn

/-- The coordinate that the running blocks hold of entry `ν`: a point's, or one of the first entries'. -/
def seenCoord (P : ℕ → EReal) (s : EReal) (ν : ℕ) : EReal := if ν < 16 then P ν * s else P (ν - 16)

/-- Entry `k` of the running blocks is the entry of rank `k` of all that was seen. -/
def Holds (E : ℕ → EReal) (P : Fin 3 → ℕ → EReal) (s : EReal) (lo n : ℕ) (i : Fin 256) (r : Run Ideal) : Prop :=
  ∀ k : Fin 16, ∃ ν ∈ seen lo n, rank (key (seenValue E big lo)) (seen lo n) ν = k.val
    ∧ r.1 (ix2 i k) = seenValue E big lo ν ∧ r.2.1 (ix2 i k) = seenCoord (P 0) s ν
    ∧ r.2.2.1 (ix2 i k) = seenCoord (P 1) s ν ∧ r.2.2.2 (ix2 i k) = seenCoord (P 2) s ν

theorem big_lt_top : big < ⊤ := by rw [big_eq]; exact EReal.coe_lt_top _

/-- A window's 512 points are merged into what was seen. -/
theorem step (E : ℕ → EReal) (P : Fin 3 → ℕ → EReal) (s : EReal) (lo n : ℕ) (i : Fin 256) (r : Run Ideal)
    (a : FVec Ideal S256x528 .f32) (w : Vec Ideal S512x3 .f32)
    (ha : ∀ (p : ℕ) (hp : p < 512), a (ix2 i ⟨p, by omega⟩) = min (E (512 * (lo + n) + p)) big)
    (ha' : ∀ q : Fin 16, a (ix2 i ⟨512 + q.val, by omega⟩) = r.1 (ix2 i q))
    (hw : ∀ (p : Fin 512) (c : Fin 3), w (ix2 p c) = P c (512 * (lo + n) + p.val))
    (h : Holds E P s lo n i r) : Holds E P s lo (n + 1) i (chosen w a r) := by
  set D := seenValue E big lo with hD
  choose r0 hr0 using h
  let R : ℕ → ℕ := fun k => if h : k < 16 then r0 ⟨k, h⟩ else 0
  have hR : ∀ k (hk : k < 16), R k = r0 ⟨k, hk⟩ := fun k hk => dif_pos hk
  have hRk : ∀ k < 16, R k ∈ seen lo n ∧ rank (key D) (seen lo n) (R k) = k := fun k hk => by
    rw [hR k hk]; exact ⟨(hr0 ⟨k, hk⟩).1, (hr0 ⟨k, hk⟩).2.1⟩
  have hlt : ∀ k < 16, R k < 16 + 512 * (lo + n) := fun k hk => by
    have := (hRk k hk).1
    simp only [seen, Finset.mem_union, Finset.mem_range, Finset.mem_Ico] at this
    omega
  let f : Fin 528 → ℕ := fun p => if p.val < 512 then 16 + 512 * (lo + n) + p.val else R (p.val - 512)
  have hf1 : ∀ p : Fin 528, p.val < 512 → f p = 16 + 512 * (lo + n) + p.val := fun p hp => if_pos hp
  have hf2 : ∀ p : Fin 528, ¬ p.val < 512 → f p = R (p.val - 512) := fun p hp => if_neg hp
  have hval : ∀ p : Fin 528, a (ix2 i p) = D (f p) := fun p => by
    by_cases hp : p.val < 512
    · rw [hf1 p hp]
      have h1 := ha p.val hp
      rw [show (⟨p.val, by omega⟩ : Fin 528) = p from rfl] at h1
      rw [h1, hD]
      unfold seenValue
      rw [if_neg (by omega), show 16 + 512 * (lo + n) + p.val - 16 = 512 * (lo + n) + p.val by omega]
    · have hq : p.val - 512 < 16 := by omega
      rw [hf2 p hp, hR _ hq]
      have h1 := ha' ⟨p.val - 512, hq⟩
      rw [show (⟨512 + (p.val - 512), by omega⟩ : Fin 528) = p from Fin.ext (by show 512 + (p.val - 512) = p.val; omega)] at h1
      rw [h1]; exact (hr0 ⟨p.val - 512, hq⟩).2.2.1
  have hord : ∀ p ∈ (Finset.univ : Finset (Fin 528)), ∀ q ∈ (Finset.univ : Finset (Fin 528)),
      (candKey (fun p => a (ix2 i p)) p < candKey (fun p => a (ix2 i p)) q ↔ key D (f p) < key D (f q)) := by
    intro p _ q _
    rw [candKey_lt, key_lt]
    show a (ix2 i p) < a (ix2 i q) ∨ (a (ix2 i p) = a (ix2 i q) ∧ ident p < ident q) ↔ _
    rw [hval p, hval q]
    refine or_congr Iff.rfl (and_congr_right fun he => ?_)
    unfold ident
    by_cases hp : p.val < 512 <;> by_cases hq : q.val < 512
    · rw [if_pos hp, if_pos hq, hf1 p hp, hf1 q hq]; omega
    · rw [if_pos hp, if_neg hq, hf1 p hp, hf2 q hq]
      have := hlt (q.val - 512) (by omega); omega
    · rw [if_neg hp, if_pos hq, hf2 p hp, hf1 q hq]
      have := hlt (p.val - 512) (by omega); omega
    · rw [if_neg hp, if_neg hq]
      have h1 := hRk (p.val - 512) (by omega)
      have h2 := hRk (q.val - 512) (by omega)
      rw [← hf2 p hp] at h1
      rw [← hf2 q hq] at h2
      constructor
      · intro hl
        have hk := key_lt_of_rank_lt (key D) (seen lo n) (i := f p) (j := f q) (by rw [h1.2, h2.2]; exact hl)
        rw [key_lt] at hk
        rcases hk with hk | hk
        · exact absurd he hk.ne
        · exact hk.2
      · intro hl
        have hk := rank_strict (key D) (seen lo n) h1.1 ((key_lt D (f p) (f q)).2 (.inr ⟨he, hl⟩))
        rw [h1.2, h2.2] at hk; exact hk
  have himg : (Finset.univ : Finset (Fin 528)).image f
      = (Finset.range 16).image R ∪ Finset.Ico (16 + 512 * (lo + n)) (16 + 512 * (lo + n) + 512) := by
    ext x
    simp only [Finset.mem_image, Finset.mem_univ, true_and, Finset.mem_union, Finset.mem_range, Finset.mem_Ico]
    constructor
    · rintro ⟨p, rfl⟩
      by_cases hp : p.val < 512
      · right; rw [hf1 p hp]; omega
      · left; exact ⟨p.val - 512, by omega, (hf2 p hp).symm⟩
    · rintro (⟨k, hk, rfl⟩ | ⟨h1, h2⟩)
      · refine ⟨⟨512 + k, by omega⟩, (hf2 _ (by simp)).trans ?_⟩
        show R (512 + k - 512) = R k
        rw [Nat.add_sub_cancel_left]
      · have hx : x - (16 + 512 * (lo + n)) < 512 := by omega
        refine ⟨⟨x - (16 + 512 * (lo + n)), by omega⟩, (hf1 _ hx).trans ?_⟩
        show 16 + 512 * (lo + n) + (x - (16 + 512 * (lo + n))) = x
        omega
  have hfin : ∀ p : Fin 528, p.val < 512 → a (ix2 i p) < ⊤ := fun p hp => by
    have h1 := ha p.val hp
    rw [show (⟨p.val, by omega⟩ : Fin 528) = p from rfl] at h1
    rw [h1]; exact (min_le_right _ _).trans_lt big_lt_top
  intro k
  obtain ⟨p₀, -, hp₀⟩ := exists_rank (candKey_inj fun p => a (ix2 i p)) (A := Finset.univ) (t := k.val)
    (by rw [Finset.card_univ, Fintype.card_fin]; omega)
  obtain ⟨c0, c1, c2, c3⟩ := chosen_at a i hfin w r k hp₀
  have hrk : rank (key D) ((Finset.range 16).image R ∪ Finset.Ico (16 + 512 * (lo + n)) (16 + 512 * (lo + n) + 512)) (f p₀)
      = k.val := by
    rw [← himg, rank_image (candKey_inj fun p => a (ix2 i p)) f hord (Finset.mem_univ p₀), hp₀]
  have hcoord : ∀ (c : Fin 3) (x : FVec Ideal S256x16 .f32) (_ : ∀ q : Fin 16, x (ix2 i q) = seenCoord (P c) s (r0 q)),
      (if h : p₀.val < 512 then w (ix2 ⟨p₀.val, h⟩ c) else x (ix2 i ⟨p₀.val - 512, by omega⟩) : EReal)
        = seenCoord (P c) s (f p₀) := fun c x hx => by
    by_cases hp : p₀.val < 512
    · rw [dif_pos hp, hf1 p₀ hp, hw]
      unfold seenCoord
      rw [if_neg (by omega), show 16 + 512 * (lo + n) + p₀.val - 16 = 512 * (lo + n) + p₀.val by omega]
    · rw [dif_neg hp, hx, hf2 p₀ hp, hR _ (by omega)]
  refine ⟨f p₀, ?_, ?_, c0.trans (hval p₀), c1.trans (hcoord 0 _ fun q => (hr0 q).2.2.2.1),
    c2.trans (hcoord 1 _ fun q => (hr0 q).2.2.2.2.1), c3.trans (hcoord 2 _ fun q => (hr0 q).2.2.2.2.2)⟩
  · rw [seen_succ]
    have : f p₀ ∈ (Finset.univ : Finset (Fin 528)).image f := Finset.mem_image_of_mem f (Finset.mem_univ _)
    rw [himg] at this
    rcases Finset.mem_union.1 this with hm | hm
    · obtain ⟨j, hj, he⟩ := Finset.mem_image.1 hm
      rw [← he]; exact Finset.mem_union_left _ (hRk j (Finset.mem_range.1 hj)).1
    · exact Finset.mem_union_right _ hm
  · rw [seen_succ, rank_merge (key_inj D) hRk (by rw [hrk]; exact k.isLt), hrk]

end Cert.KernelIdeal.Knn

end
-- ==== Proof.Search.lean ====
/- The sweep over the extended reals: each of the block's points ends with the sixteen nearest of its cloud. -/
module

public import proofs.«01_k».proof.Proof.Step
public import proofs.«01_k».proof.Proof.Sweep
public import Idealize.ShloMosaic.Lib.Pipeline.ValueKit
public import Idealize.ShloMosaic.Lib.IdealHost

@[expose] public section

set_option maxRecDepth 16384

noncomputable section

namespace Cert.KernelIdeal.Knn

open Cert.KernelIdeal Cert.KernelIdeal.Gen Idealize.ShloMosaic Cert.Knn

/-- A point's coordinate, for any number. -/
def coord (pos : Vec Ideal S8192x3 .f32) (c : Fin 3) (j : ℕ) : EReal := if h : j < 8192 then pos (ix2 ⟨j, h⟩ c) else 0

/-- The squared distance of the block's point `i` from point `j`. -/
def dist (x : Vec Ideal S256x3 .f32) (pos : Vec Ideal S8192x3 .f32) (i : Fin 256) (j : ℕ) : EReal :=
  (x (ix2 i 0) - coord pos 0 j) * (x (ix2 i 0) - coord pos 0 j)
    + (x (ix2 i 1) - coord pos 1 j) * (x (ix2 i 1) - coord pos 1 j)
    + (x (ix2 i 2) - coord pos 2 j) * (x (ix2 i 2) - coord pos 2 j)

/-- The distance within a cloud: infinite from one cloud to another. -/
def within (x : Vec Ideal S256x3 .f32) (pos : Vec Ideal S8192x3 .f32) (own : Vec Ideal S256x1 .i32)
    (all : Vec Ideal S1x8192 .i32) (i : Fin 256) (j : ℕ) : EReal :=
  if h : j < 8192 then (if own (ix2 i 0) = all (ix2 0 ⟨j, h⟩) then dist x pos i j else ⊤) else ⊤

theorem col_at (x : Vec Ideal S256x3 .f32) (i : Fin 256) : colX x (ix2 i 0) = x (ix2 i 0) ∧ colY x (ix2 i 0) = x (ix2 i 1) ∧ colZ x (ix2 i 0) = x (ix2 i 2) := by
  refine ⟨?_, ?_, ?_⟩ <;>
  · refine View.ld_unit_apply_of _ _ _ _ _ _ fun a => ?_
    fin_cases a
    · exact (Nat.zero_add _).symm
    · rfl

theorem own_at (own : Vec Ideal S256x1 .i32) (i : Fin 256) : View.ld own (Rect.unit (s := S256x1) ![0, 0] S256x1.size inb_S256x1_S256x1_0_0) (ix2 i 0) = own (ix2 i 0) := by
  refine View.ld_unit_apply_of _ _ _ _ _ _ fun a => ?_
  fin_cases a
  · exact (Nat.zero_add _).symm
  · rfl

/-- The block of candidates at an index. -/
theorem pay1_at (i : Fin 256) (x y z : Vec Ideal S256x1 .f32) (d : FVec Ideal S256x16 .f32) (px py pz : Vec Ideal S1x512 .f32)
    (b : Vec Ideal S1x512 .i32) (o : Vec Ideal S256x1 .i32) :
    (∀ (p : ℕ) (hp : p < 512), k0_pay1 x y z d px py pz b o (ix2 i ⟨p, by omega⟩)
      = if o (ix2 i 0) = b (ix2 0 ⟨p, hp⟩) then
          (x (ix2 i 0) - px (ix2 0 ⟨p, hp⟩)) * (x (ix2 i 0) - px (ix2 0 ⟨p, hp⟩))
            + (y (ix2 i 0) - py (ix2 0 ⟨p, hp⟩)) * (y (ix2 i 0) - py (ix2 0 ⟨p, hp⟩))
            + (z (ix2 i 0) - pz (ix2 0 ⟨p, hp⟩)) * (z (ix2 i 0) - pz (ix2 0 ⟨p, hp⟩))
        else big)
    ∧ ∀ q : Fin 16, k0_pay1 x y z d px py pz b o (ix2 i ⟨512 + q.val, by omega⟩) = d (ix2 i q) := by
  constructor
  · intro p hp
    pointwise [k0_pay1]
    rw [dif_pos hp]
    by_cases ho : o (ix2 i 0) = b (ix2 0 ⟨p, hp⟩)
    · rw [if_pos ho]; simp [Scalar.select, IntOp.cmpi, ho]
    · rw [if_neg ho]; simp [Scalar.select, IntOp.cmpi, bne_iff_ne.2 ho, big]
  · intro q
    pointwise [k0_pay1]

section Window

variable (s e : BitVec 32) (hs : s.toNat ≤ 8192) (he : e.toNat ≤ 8192) (hw : k0_chk1 s e) (k : Fin (k0_t1_loop s e).trips)
include hs he

theorem posT_window (posT : Vec Ideal S3x8192 .f32) (p : Fin 512) :
    View.ld posT (Rect.unit (s := S3x8192) (k0_off1 s e k) S1x512.size (k0_off1_inb s e hw k)) (ix2 0 p)
        = posT (ix2 0 ⟨512 * (s.toNat / 512 + k) + p.val, by have := window_inside s e hs he k k.isLt; omega⟩)
      ∧ View.ld posT (Rect.unit (s := S3x8192) (k0_off2 s e k) S1x512.size (k0_off2_inb s e hw k)) (ix2 0 p)
        = posT (ix2 1 ⟨512 * (s.toNat / 512 + k) + p.val, by have := window_inside s e hs he k k.isLt; omega⟩)
      ∧ View.ld posT (Rect.unit (s := S3x8192) (k0_off3 s e k) S1x512.size (k0_off3_inb s e hw k)) (ix2 0 p)
        = posT (ix2 2 ⟨512 * (s.toNat / 512 + k) + p.val, by have := window_inside s e hs he k k.isLt; omega⟩) := by
  have hst := window_start s e hs he k k.isLt
  refine ⟨?_, ?_, ?_⟩ <;>
  · refine View.ld_unit_apply_of _ _ _ _ _ _ fun a => ?_
    fin_cases a
    · rfl
    · exact congrArg (· + p.val) ((mul_comm _ _).trans hst.symm)

theorem all_window (all : Vec Ideal S1x8192 .i32) (p : Fin 512) :
    View.ld all (Rect.unit (s := S1x8192) (k0_off4 s e k) S1x512.size (k0_off4_inb s e hw k)) (ix2 0 p)
      = all (ix2 0 ⟨512 * (s.toNat / 512 + k) + p.val, by have := window_inside s e hs he k k.isLt; omega⟩) := by
  have hst := window_start s e hs he k k.isLt
  refine View.ld_unit_apply_of _ _ _ _ _ _ fun a => ?_
  fin_cases a
  · rfl
  · exact congrArg (· + p.val) ((mul_comm _ _).trans hst.symm)

theorem windowPoints_at (pos : Vec Ideal S8192x3 .f32) (p : Fin 512) (c : Fin 3) :
    windowPoints pos s e hw k (ix2 p c) = coord pos c (512 * (s.toNat / 512 + k) + p.val) := by
  have hst := window_start s e hs he k k.isLt
  have hin := window_inside s e hs he k k.isLt
  unfold coord
  rw [dif_pos (by omega)]
  refine View.ld_unit_apply_of _ _ _ _ _ _ fun a => ?_
  fin_cases a
  · exact congrArg (· + p.val) ((mul_comm _ _).trans hst.symm)
  · exact (Nat.zero_add _).symm

variable (x : Vec Ideal S256x3 .f32) (pos : Vec Ideal S8192x3 .f32) (posT : Vec Ideal S3x8192 .f32)
    (hT : ∀ (j : Fin 8192) (c : Fin 3), posT (ix2 c j) = pos (ix2 j c))
    (own : Vec Ideal S256x1 .i32) (all : Vec Ideal S1x8192 .i32) (i : Fin 256)
    (hD : ∀ j : Fin 8192, own (ix2 i 0) = all (ix2 0 j) → dist x pos i j.val < big)

include hT hD
/-- The candidates of a window: the points' distances within their cloud, at most the largest finite value. -/
theorem candidates_at (d : FVec Ideal S256x16 .f32) :
    (∀ (p : ℕ) (hp : p < 512), candidates (colX x) (colY x) (colZ x) posT own all s e hw k d (ix2 i ⟨p, by omega⟩)
      = min (within x pos own all i (512 * (s.toNat / 512 + k) + p)) big)
    ∧ ∀ q : Fin 16, candidates (colX x) (colY x) (colZ x) posT own all s e hw k d (ix2 i ⟨512 + q.val, by omega⟩) = d (ix2 i q) := by
  have hin := window_inside s e hs he k k.isLt
  unfold candidates
  refine ⟨fun p hp => ?_, (pay1_at i _ _ _ d _ _ _ _ _).2⟩
  refine ((pay1_at i _ _ _ d _ _ _ _ _).1 p hp).trans ?_
  obtain ⟨h1, h2, h3⟩ := posT_window s e hs he hw k posT ⟨p, hp⟩
  obtain ⟨c1, c2, c3⟩ := col_at x i
  rw [h1, h2, h3, c1, c2, c3, all_window s e hs he hw k all ⟨p, hp⟩, own_at own i, hT, hT, hT]
  have hj : 512 * (s.toNat / 512 + k) + p < 8192 := by omega
  have hD' := hD ⟨512 * (s.toNat / 512 + k) + p, hj⟩
  unfold within
  rw [dif_pos hj]
  by_cases ho : own (ix2 i 0) = all (ix2 0 ⟨512 * (s.toNat / 512 + k) + p, hj⟩)
  · rw [if_pos ho, if_pos ho, min_eq_left (hD' ho).le]
    unfold dist coord
    rw [dif_pos hj, dif_pos hj, dif_pos hj]
  · rw [if_neg ho, if_neg ho, min_eq_right le_top]

end Window

/-! ## The first running blocks -/

theorem sgt_ofNat (n : ℕ) (hn : n ≤ 8192) : Scalar.cmpi .sgt (BitVec.ofNat 32 n) 0#32 = if n = 0 then 0#1 else 1#1 := by
  have h := toInt_ofNat_small n hn
  show BitVec.ofBool ((0#32 : BitVec 32).slt (BitVec.ofNat 32 n)) = _
  rw [BitVec.slt, h]
  by_cases h0 : n = 0
  · subst h0; rfl
  · rw [if_neg h0, decide_eq_true (by simpa using Nat.pos_of_ne_zero h0)]; rfl

theorem pay265_at (t : Ideal .f32) (v : Vec Ideal S1x16 .f32) (i : Fin 256) (k : Fin 16) :
    k0_pay265 t (k0_pay264 v) (ix2 i k) = (v (ix2 0 k) * t : EReal) := by pointwise [k0_pay265, k0_pay264]
theorem pay266_at (t : Ideal .f32) (v : Vec Ideal S1x16 .f32) (i : Fin 256) (k : Fin 16) :
    k0_pay266 t v (ix2 i k) = (v (ix2 0 k) * t : EReal) := by pointwise [k0_pay266]
theorem pay267_at (t : Ideal .f32) (v : Vec Ideal S1x16 .f32) (i : Fin 256) (k : Fin 16) :
    k0_pay267 t v (ix2 i k) = (v (ix2 0 k) * t : EReal) := by pointwise [k0_pay267]

section Start

variable (s : BitVec 32) (hs : s.toNat ≤ 8192)
include hs

theorem seed_eq : (seed s : Ideal .f32) = if s.toNat / 512 = 0 then (0 : EReal) else 1 := by
  have h : (seed s : Ideal .f32) = Scalar.select (Scalar.cmpi .sgt (k0_t1_loop s 0#32).lb 0#32) (Ideal.ofBits .f32 0x3F800000#32)
      (Ideal.ofBits .f32 0x00000000#32) := rfl
  rw [h, first_window s 0#32 hs, sgt_ofNat _ (by omega), Ideal.ofBits_one_f32, Ideal.ofBits_zero_f32]
  by_cases h0 : s.toNat / 512 = 0
  · rw [if_pos h0, if_pos h0]; rfl
  · rw [if_neg h0, if_neg h0]; rfl

theorem first_value (j : S256x16.Idx) : (k0_pay263 s 512#32 (quot s) (isPos s) : FVec Ideal S256x16 .f32) j
    = if s.toNat / 512 = 0 then ⊤ else big := by
  have h : (k0_pay263 s 512#32 (quot s) (isPos s) : FVec Ideal S256x16 .f32) j
    = Scalar.select (Scalar.cmpi .sgt (k0_t1_loop s 0#32).lb 0#32) big (Ideal.ofBits .f32 0x7F800000#32) := rfl
  rw [h, first_window s 0#32 hs, sgt_ofNat _ (by omega), word_inf]
  by_cases h0 : s.toNat / 512 = 0
  · rw [if_pos h0, if_pos h0]; rfl
  · rw [if_neg h0, if_neg h0]; rfl

variable (x : Vec Ideal S256x3 .f32) (pos : Vec Ideal S8192x3 .f32) (posT : Vec Ideal S3x8192 .f32)
    (hT : ∀ (j : Fin 8192) (c : Fin 3), posT (ix2 c j) = pos (ix2 j c)) (i : Fin 256)
include hT

theorem start_holds (E : ℕ → EReal) : Holds E (coord pos) (if s.toNat / 512 = 0 then 0 else 1) (s.toNat / 512) 0 i
    (start (F := Ideal) posT s) := by
  intro k
  obtain ⟨h1, h2⟩ := rank_start E big (s.toNat / 512) k.val k.isLt
  have hc : ∀ c : Fin 3, seenCoord (coord pos c) (if s.toNat / 512 = 0 then 0 else 1) k.val
      = posT (ix2 c ⟨k.val, by omega⟩) * (if s.toNat / 512 = 0 then 0 else 1) := fun c => by
    unfold seenCoord coord
    rw [if_pos k.isLt, dif_pos (by omega), hT]
  have hl : ∀ (c : Fin 3) inb, View.ld posT (Rect.unit (s := S3x8192) ![c.val, 0] S1x16.size inb) (ix2 0 k)
      = posT (ix2 c ⟨k.val, by omega⟩) := fun c inb => by
    refine View.ld_unit_apply_of _ _ _ _ _ _ fun a => ?_
    fin_cases a
    · rfl
    · exact (Nat.zero_add _).symm
  refine ⟨k.val, h1, h2, ?_, ?_, ?_, ?_⟩
  · refine (first_value s hs (ix2 i k)).trans ?_
    unfold seenValue; rw [if_pos k.isLt]
  · exact ((pay265_at _ _ i k).trans (congrArg₂ (fun u v : EReal => u * v) (hl 0 _) (seed_eq s hs))).trans (hc 0).symm
  · exact ((pay266_at _ _ i k).trans (congrArg₂ (fun u v : EReal => u * v) (hl 1 _) (seed_eq s hs))).trans (hc 1).symm
  · exact ((pay267_at _ _ i k).trans (congrArg₂ (fun u v : EReal => u * v) (hl 2 _) (seed_eq s hs))).trans (hc 2).symm

end Start

section Whole

variable (x : Vec Ideal S256x3 .f32) (pos : Vec Ideal S8192x3 .f32) (posT : Vec Ideal S3x8192 .f32)
    (hT : ∀ (j : Fin 8192) (c : Fin 3), posT (ix2 c j) = pos (ix2 j c))
    (own : Vec Ideal S256x1 .i32) (all : Vec Ideal S1x8192 .i32) (i : Fin 256)
    (hD : ∀ j : Fin 8192, own (ix2 i 0) = all (ix2 0 j) → dist x pos i j.val < big)
include hT hD

theorem sweep_holds (s e : BitVec 32) (hs : s.toNat ≤ 8192) (he : e.toNat ≤ 8192) (hw : k0_chk1 s e) (n : ℕ)
    (hn : n ≤ (k0_t1_loop s e).trips) :
    Holds (within x pos own all i) (coord pos) (if s.toNat / 512 = 0 then 0 else 1) (s.toNat / 512) n i
      (sweep (F := Ideal) (colX x) (colY x) (colZ x) pos posT own all s e hw (start posT s) n) := by
  induction n with
  | zero => exact start_holds s hs pos posT hT i _
  | succ n ih =>
    have h : n < (k0_t1_loop s e).trips := hn
    rw [sweep, dif_pos h]
    obtain ⟨h1, h2⟩ := candidates_at s e hs he hw ⟨n, h⟩ x pos posT hT own all i hD
      (sweep (F := Ideal) (colX x) (colY x) (colZ x) pos posT own all s e hw (start posT s) n).1
    exact step _ _ _ _ _ i _ _ _ h1 h2 (windowPoints_at s e hs he hw ⟨n, h⟩ pos) (ih h.le)

/-- Entry `k` of the sweep's end is the point of rank `k` by distance within the cloud and number. -/
theorem sweep_end (s e : BitVec 32) (hs : s.toNat ≤ 8192) (he : e.toNat ≤ 8192) (hw : k0_chk1 s e)
    (hspan : ∀ j : Fin 8192, own (ix2 i 0) = all (ix2 0 j) → s.toNat ≤ j.val ∧ j.val < e.toNat)
    (hself : ∃ j : Fin 8192, own (ix2 i 0) = all (ix2 0 j)) (k : Fin 16) (r : Run Ideal)
    (hr : r = sweep (F := Ideal) (colX x) (colY x) (colZ x) pos posT own all s e hw (start posT s) (k0_t1_loop s e).trips) :
    ∃ j < 8192, rank (key (within x pos own all i)) (Finset.range 8192) j = k.val
      ∧ r.2.1 (ix2 i k) = coord pos 0 j ∧ r.2.2.1 (ix2 i k) = coord pos 1 j ∧ r.2.2.2 (ix2 i k) = coord pos 2 j := by
  have hh := sweep_holds x pos posT hT own all i hD s e hs he hw _ (le_refl _)
  rw [← hr] at hh
  obtain ⟨ν, hν, hr, -, h1, h2, h3⟩ := hh k
  rw [trips_eq _ _ hs he] at hν hr
  generalize s.toNat = s at *
  generalize e.toNat = e at *
  obtain ⟨j₀, hj₀⟩ := hself
  have h0 := hspan j₀ hj₀
  obtain ⟨hv, hp, hrank⟩ := rank_final (within x pos own all i) big (s / 512) ((e + 511) / 512 - s / 512) big_lt_top
    (fun j hj => by
      unfold within; rw [dif_pos hj]
      by_cases ho : own (ix2 i 0) = all (ix2 0 ⟨j, hj⟩)
      · rw [if_pos ho]; exact .inl (hD ⟨j, hj⟩ ho)
      · rw [if_neg ho]; exact .inr rfl)
    (by omega) (by omega)
    (fun j hj hlt => by
      unfold within at hlt; rw [dif_pos hj] at hlt
      by_cases ho : own (ix2 i 0) = all (ix2 0 ⟨j, hj⟩)
      · have := hspan ⟨j, hj⟩ ho
        simp only at this
        omega
      · rw [if_neg ho] at hlt; exact absurd hlt (not_lt.2 le_top))
    k.isLt hν hr
  have hc : ∀ c, seenCoord (coord pos c) (if s / 512 = 0 then 0 else 1) ν = coord pos c (point ν) := fun c => by
    unfold seenCoord point
    by_cases hl : ν < 16
    · rw [if_pos hl, if_pos hl, if_neg (by omega), mul_one]
    · rw [if_neg hl, if_neg hl]
  exact ⟨point ν, hp, hrank, h1.trans (hc 0), h2.trans (hc 1), h3.trans (hc 2)⟩

/-- Entry `k` of what the kernel finds is the point of rank `k` by distance within the cloud and number. -/
theorem nearest_at (hspan : ∀ j : Fin 8192, own (ix2 i 0) = all (ix2 0 j) →
      (before (F := Ideal) own all).toNat ≤ j.val ∧ j.val < (upto (F := Ideal) own all).toNat)
    (hself : ∃ j : Fin 8192, own (ix2 i 0) = all (ix2 0 j)) (k : Fin 16) :
    ∃ j < 8192, rank (key (within x pos own all i)) (Finset.range 8192) j = k.val
      ∧ (nearest (F := Ideal) x pos posT own all).2.1 (ix2 i k) = coord pos 0 j
      ∧ (nearest (F := Ideal) x pos posT own all).2.2.1 (ix2 i k) = coord pos 1 j
      ∧ (nearest (F := Ideal) x pos posT own all).2.2.2 (ix2 i k) = coord pos 2 j :=
  sweep_end x pos posT hT own all i hD _ _ (before_le (F := Ideal) own all) (upto_le (F := Ideal) own all) (assumed own all)
    hspan hself k _ rfl

end Whole

end Cert.KernelIdeal.Knn

end
-- ==== Proof.Spec.lean ====
/- What kernel and reference both compute, coordinate by coordinate over the extended reals. -/
module

public import proofs.«01_k».proof.Proof.Rank
public import Idealize.ShloMosaic.PureOps.Ideal

@[expose] public section

/-!
# The network, by coordinates

Every point has a list of sixteen neighbours: those of rank 0 to 15 by distance within its cloud, and by number where
distances agree (`Near`). Their coordinates and differences are the features of a network of three layers, whose nine outputs
are averaged over each cloud into a matrix that the cloud's points are multiplied by.
-/

noncomputable section

namespace Cert.Knn

open Idealize.ShloMosaic Finset

variable (P : Fin 8192 → Fin 3 → EReal) (β : Fin 8192 → BitVec 32)

/-- The squared distance of two points. -/
def far (i j : Fin 8192) : EReal :=
  (P i 0 - P j 0) * (P i 0 - P j 0) + (P i 1 - P j 1) * (P i 1 - P j 1) + (P i 2 - P j 2) * (P i 2 - P j 2)

/-- The same within a cloud, infinite between clouds, for any number. -/
def apart (i : Fin 8192) (j : ℕ) : EReal :=
  if h : j < 8192 then (if β i = β ⟨j, h⟩ then far P i ⟨j, h⟩ else ⊤) else ⊤

/-- The points of rank 0 to 15, for every point. -/
def Near (ν : Fin 8192 → Fin 16 → Fin 8192) : Prop :=
  ∀ i k, rank (key (apart P β i)) (range 8192) (ν i k).val = k.val

theorem Near.unique {ν ν' : Fin 8192 → Fin 16 → Fin 8192} (h : Near P β ν) (h' : Near P β ν') : ν = ν' := by
  funext i k
  exact Fin.ext (rank_inj (key_inj _) (mem_range.2 (ν i k).isLt) (mem_range.2 (ν' i k).isLt) ((h i k).trans (h' i k).symm))

/-- Feature `6 k + t`: the point's coordinate `t`, or from `t = 3` on its coordinate's distance to the neighbour's. -/
def feature (ν : Fin 8192 → Fin 16 → Fin 8192) (i : Fin 8192) (k : Fin 16) (t : Fin 6) : EReal :=
  if h : t.val < 3 then P i ⟨t.val, h⟩ else P i ⟨t.val - 3, by omega⟩ - P (ν i k) ⟨t.val - 3, by omega⟩

variable (ν : Fin 8192 → Fin 16 → Fin 8192)
  (W1 : Fin 96 → Fin 1024 → EReal) (b1 : Fin 1024 → EReal) (W2 : Fin 1024 → Fin 256 → EReal) (b2 : Fin 256 → EReal)
  (W3 : Fin 256 → Fin 9 → EReal) (b3 : Fin 9 → EReal)

/-- Row `6 k + t` of the first matrix. -/
def rowOf (k : Fin 16) (t : Fin 6) : Fin 96 := ⟨6 * k.val + t.val, by omega⟩

def pre1 (i : Fin 8192) (h : Fin 1024) : EReal := ∑ q : Fin 96, feature P ν i ⟨q.val / 6, by omega⟩ ⟨q.val % 6, by omega⟩ * W1 q h

/-- The two layers that follow the first product, of any row. -/
def tailOf (v : Fin 1024 → EReal) (d : Fin 9) : EReal :=
  (∑ g : Fin 256, max ((∑ h : Fin 1024, max (v h + b1 h) 0 * W2 h g) + b2 g) 0 * W3 g d) + b3 d

/-- The network's outputs for a point. -/
def outputs (i : Fin 8192) (d : Fin 9) : EReal := tailOf b1 W2 b2 W3 b3 (pre1 P ν W1 i) d

/-- A cloud's number of points. -/
def members (b : BitVec 32) : EReal := ∑ i : Fin 8192, if β i = b then 1 else 0

/-- A cloud's sum of an output. -/
def total (b : BitVec 32) (d : Fin 9) : EReal := ∑ i : Fin 8192, if β i = b then outputs P ν W1 b1 W2 b2 W3 b3 i d else 0

/-- The result: the point times its cloud's mean matrix. -/
def result (i : Fin 8192) (c : Fin 3) : EReal :=
  ∑ d : Fin 3, P i d * Ideal.div (total P β ν W1 b1 W2 b2 W3 b3 (β i) ⟨3 * d.val + c.val, by omega⟩) (max (members β (β i)) 1)

end Cert.Knn

end
-- ==== Proof.Layers.lean ====
/- The kernels' layers, one-hot sums and closing product read at an index. -/
module

public import proofs.«01_k».proof.Proof.Search
public import proofs.«01_k».proof.Proof.Finish
public import proofs.«01_k».proof.Proof.Spec

@[expose] public section

set_option maxRecDepth 16384

noncomputable section

namespace Cert.KernelIdeal.Knn

open Cert.KernelIdeal Cert.KernelIdeal.Gen Idealize.ShloMosaic Cert.Knn

/-- A truth value as a number. -/
theorem truth (b : Bool) : FloatOps.sitofp (F := Ideal) .f32 ((BitVec.ofBool b).setWidth 32) = if b then (1 : EReal) else 0 := by
  cases b
  · show (((((BitVec.ofBool false).setWidth 32).toInt : ℤ) : ℝ) : EReal) = 0
    simp
  · show (((((BitVec.ofBool true).setWidth 32).toInt : ℤ) : ℝ) : EReal) = 1
    simp

theorem onehot_at (x6 : Vec Ideal S1x256 .i32) (b : Fin 8) (i : Fin 256) :
    k0_pay294 (F := Ideal) x6 (ix2 b i) = if x6 (ix2 0 i) = BitVec.ofNat 32 b.val then 1 else 0 := by
  pointwise [k0_pay294]
  refine (truth _).trans ?_
  by_cases h : x6 (ix2 0 i) = BitVec.ofNat 32 b.val
  · simp [h]
  · simp [h, Ne.symm h]

/-- Entry `16 t + k` of a point's row: coordinate `t`, or from `t = 3` on the difference to neighbour `k`. -/
def mixed (x y z : EReal) (rx ry rz : Fin 16 → EReal) (t : ℕ) (k : Fin 16) : EReal :=
  if t < 1 then x else if t < 2 then y else if t < 3 then z
  else if t < 4 then x - rx k else if t < 5 then y - ry k else z - rz k

section Mixed

variable (x y z : EReal) (rx ry rz : Fin 16 → EReal) {t : ℕ} {j k : Fin 16}

theorem mixed_0 (h : t = 0) : x = mixed x y z rx ry rz t k := by subst h; rfl
theorem mixed_1 (h : t = 1) : y = mixed x y z rx ry rz t k := by subst h; rfl
theorem mixed_2 (h : t = 2) : z = mixed x y z rx ry rz t k := by subst h; rfl
theorem mixed_3 (h : t = 3) (e : j.val = k.val) : x - rx j = mixed x y z rx ry rz t k := by subst h; cases Fin.ext e; rfl
theorem mixed_4 (h : t = 4) (e : j.val = k.val) : y - ry j = mixed x y z rx ry rz t k := by subst h; cases Fin.ext e; rfl
theorem mixed_5 (h : t = 5) (e : j.val = k.val) : z - rz j = mixed x y z rx ry rz t k := by subst h; cases Fin.ext e; rfl

end Mixed

theorem first_at (x y z : Vec Ideal S256x1 .f32) (rx ry rz : FVec Ideal S256x16 .f32) (w : Vec Ideal S96x1024 .f32) (i : Fin 256) (h : Fin 1024) :
    k0_pay293 (F := Ideal) x y z rx ry rz w (ix2 i h)
      = ∑ q : Fin 96, mixed (x (ix2 i 0)) (y (ix2 i 0)) (z (ix2 i 0)) (fun k => rx (ix2 i k)) (fun k => ry (ix2 i k)) (fun k => rz (ix2 i k))
          (q.val / 16) ⟨q.val % 16, by omega⟩ * w (ix2 q h) := by
  pointwise [k0_pay293]
  refine Finset.sum_congr rfl fun q _ => congrArg (· * w (ix2 q h)) ?_
  have hq := q.isLt
  by_cases h0 : q.val < 16
  · refine (dif_pos h0).trans ?_
    exact mixed_0 _ _ _ _ _ _ (by omega)
  refine (dif_neg h0).trans ?_
  by_cases h1 : q.val - 16 < 16
  · refine (dif_pos h1).trans ?_
    exact mixed_1 _ _ _ _ _ _ (by omega)
  refine (dif_neg h1).trans ?_
  by_cases h2 : q.val - 16 - 16 < 16
  · refine (dif_pos h2).trans ?_
    exact mixed_2 _ _ _ _ _ _ (by omega)
  refine (dif_neg h2).trans ?_
  by_cases h3 : q.val - 16 - 16 - 16 < 16
  · refine (dif_pos h3).trans ?_
    exact mixed_3 _ _ _ (fun k => rx (ix2 i k)) (fun k => ry (ix2 i k)) (fun k => rz (ix2 i k)) (k := ⟨q.val % 16, by omega⟩) (j := ⟨q.val - 16 - 16 - 16, by omega⟩) (by omega) (by show q.val - 16 - 16 - 16 = q.val % 16; omega)
  refine (dif_neg h3).trans ?_
  by_cases h4 : q.val - 16 - 16 - 16 - 16 < 16
  · refine (dif_pos h4).trans ?_
    exact mixed_4 _ _ _ (fun k => rx (ix2 i k)) (fun k => ry (ix2 i k)) (fun k => rz (ix2 i k)) (k := ⟨q.val % 16, by omega⟩) (j := ⟨q.val - 16 - 16 - 16 - 16, by omega⟩) (by omega) (by show q.val - 16 - 16 - 16 - 16 = q.val % 16; omega)
  refine (dif_neg h4).trans ?_
  exact mixed_5 _ _ _ (fun k => rx (ix2 i k)) (fun k => ry (ix2 i k)) (fun k => rz (ix2 i k)) (k := ⟨q.val % 16, by omega⟩) (j := ⟨q.val - 16 - 16 - 16 - 16 - 16, by omega⟩) (by omega) (by show q.val - 16 - 16 - 16 - 16 - 16 = q.val % 16; omega)

theorem sums_step_at (v : FVec Ideal S256x1024 .f32) (b1 : Vec Ideal S1x1024 .f32) (w2 : Vec Ideal S1024x256 .f32) (b2 : Vec Ideal S1x256 .f32)
    (w3 : Vec Ideal S256x9 .f32) (b3 : Vec Ideal S1x9 .f32) (x6 : Vec Ideal S1x256 .i32) (old : Vec Ideal S8x9 .f32) (b : Fin 8) (d : Fin 9) :
    k0_pay295 (F := Ideal) v b1 w2 b2 w3 b3 x6 old (ix2 b d)
      = old (ix2 b d) + ∑ i : Fin 256, k0_pay294 (F := Ideal) x6 (ix2 b i) * tailOf (fun h => b1 (ix2 0 h)) (fun h g => w2 (ix2 h g)) (fun g => b2 (ix2 0 g))
          (fun g d => w3 (ix2 g d)) (fun d => b3 (ix2 0 d)) (fun h => v (ix2 i h)) d := by
  pointwise [k0_pay295]
  rfl

theorem counts_step_at (x6 : Vec Ideal S1x256 .i32) (old : Vec Ideal S8x1 .f32) (b : Fin 8) :
    k0_pay296 (F := Ideal) x6 old (ix2 b 0) = old (ix2 b 0) + ∑ i : Fin 256, k0_pay294 (F := Ideal) x6 (ix2 b i) := by
  pointwise [k0_pay296]

theorem zeros_at (b : Fin 8) (d : Fin 9) : k0_pay257 (F := Ideal) (ix2 b d) = 0 ∧ k0_pay258 (F := Ideal) (ix2 b 0) = 0 :=
  ⟨Ideal.ofBits_zero_f32, Ideal.ofBits_zero_f32⟩

/-- One entry of the closing product: a row times a cloud's column, weighed by the cloud. -/
def weighed (r : Fin 24 → EReal) (o : BitVec 32) (n : Fin 8 → EReal) (c : ℕ) (hc : c < 3) : EReal :=
  ∑ b : Fin 8, r ⟨8 * c + b.val, by omega⟩ * Ideal.div (if o = BitVec.ofNat 32 b.val then 1 else 0) (max (n b) 1)

theorem truth_eq (a b : BitVec 32) : FloatOps.sitofp (F := Ideal) .f32 ((IntOp.cmpi .eq a b).setWidth 32) = if a = b then (1 : EReal) else 0 := by
  refine (truth _).trans ?_
  by_cases h : a = b <;> simp [h]

theorem closing_at (p : Vec Ideal S256x3 .f32) (s : Vec Ideal S3x24 .f32) (o : Vec Ideal S256x1 .i32) (n : Vec Ideal S1x8 .f32) (i : Fin 256) (c : Fin 3) :
    k1_pay1 (F := Ideal) p s o n (ix2 i c) = weighed (fun q => ∑ d : Fin 3, p (ix2 i d) * s (ix2 d q)) (o (ix2 i 0)) (fun b => n (ix2 0 b)) c.val c.isLt := by
  pointwise [k1_pay1]
  simp only [truth_eq]
  unfold weighed
  have hc := c.isLt
  split_ifs with h1 h2
  · refine Finset.sum_congr rfl fun b _ => congrArg (fun q => (∑ d : Fin 3, p (ix2 i d) * s (ix2 d q)) * _) (Fin.ext ?_)
    show b.val = 8 * c.val + b.val
    omega
  · refine Finset.sum_congr rfl fun b _ => congrArg (fun q => (∑ d : Fin 3, p (ix2 i d) * s (ix2 d q)) * _) (Fin.ext ?_)
    show 8 + b.val = 8 * c.val + b.val
    omega
  · refine Finset.sum_congr rfl fun b _ => congrArg (fun q => (∑ d : Fin 3, p (ix2 i d) * s (ix2 d q)) * _) (Fin.ext ?_)
    show 16 + b.val = 8 * c.val + b.val
    omega

end Cert.KernelIdeal.Knn

end
-- ==== Proof.Span.lean ====
/- The points the kernel sweeps for a block: all those of the block's clouds. -/
module

public import proofs.«01_k».proof.Proof.Bounds
public import Idealize.ShloMosaic.Lib.Pointwise
public import Idealize.ShloMosaic.Lib.Affine
public import Idealize.ShloMosaic.Lib.Pipeline.Value

@[expose] public section

set_option maxRecDepth 16384

noncomputable section

namespace Cert.Knn

open Idealize.ShloMosaic Finset

theorem toInt_minsi (x y : BitVec 32) : (IntOp.minsi x y).toInt ≤ x.toInt ∧ (IntOp.minsi x y).toInt ≤ y.toInt := by
  unfold IntOp.minsi
  by_cases h : x.slt y = true
  · rw [if_pos h]; exact ⟨le_refl _, (BitVec.slt_iff_toInt_lt.1 h).le⟩
  · rw [if_neg h]; exact ⟨not_lt.1 fun h' => h (BitVec.slt_iff_toInt_lt.2 h'), le_refl _⟩

theorem toInt_maxsi (x y : BitVec 32) : x.toInt ≤ (IntOp.maxsi x y).toInt ∧ y.toInt ≤ (IntOp.maxsi x y).toInt := by
  unfold IntOp.maxsi
  by_cases h : y.slt x = true
  · rw [if_pos h]; exact ⟨le_refl _, (BitVec.slt_iff_toInt_lt.1 h).le⟩
  · rw [if_neg h]; exact ⟨not_lt.1 fun h' => h (BitVec.slt_iff_toInt_lt.2 h'), le_refl _⟩

/-- A running minimum is at most each entry. -/
theorem foldl_minsi {ι : Type} (g : ι → BitVec 32) (l : List ι) : ∀ init : BitVec 32,
    (l.foldl (fun r n => IntOp.minsi r (g n)) init).toInt ≤ init.toInt
      ∧ ∀ n ∈ l, (l.foldl (fun r n => IntOp.minsi r (g n)) init).toInt ≤ (g n).toInt := by
  induction l with
  | nil => exact fun init => ⟨le_refl _, fun n hn => absurd hn List.not_mem_nil⟩
  | cons a l ih =>
    intro init
    obtain ⟨h1, h2⟩ := ih (IntOp.minsi init (g a))
    refine ⟨h1.trans (toInt_minsi _ _).1, fun n hn => ?_⟩
    rcases List.mem_cons.1 hn with rfl | hn
    · exact h1.trans (toInt_minsi _ _).2
    · exact h2 n hn

/-- A running maximum is at least each entry. -/
theorem foldl_maxsi {ι : Type} (g : ι → BitVec 32) (l : List ι) : ∀ init : BitVec 32,
    init.toInt ≤ (l.foldl (fun r n => IntOp.maxsi r (g n)) init).toInt
      ∧ ∀ n ∈ l, (g n).toInt ≤ (l.foldl (fun r n => IntOp.maxsi r (g n)) init).toInt := by
  induction l with
  | nil => exact fun init => ⟨le_refl _, fun n hn => absurd hn List.not_mem_nil⟩
  | cons a l ih =>
    intro init
    obtain ⟨h1, h2⟩ := ih (IntOp.maxsi init (g a))
    refine ⟨(toInt_maxsi _ _).1.trans h1, fun n hn => ?_⟩
    rcases List.mem_cons.1 hn with rfl | hn
    · exact (toInt_maxsi _ _).2.trans h1
    · exact h2 n hn

/-- The least entry of a column of 256 is at most each, the greatest at least each. -/
theorem column_bounds (v : IVec ⟨2, ![256, 1]⟩ 32) (h₁ : (⟨2, ![256, 1]⟩ : Shape).ShapeCasts ⟨3, ![1, 256, 1]⟩)
    (h₂ : (⟨3, ![1, 256, 1]⟩ : Shape).Reduces [1, 2] ⟨1, ![1]⟩) (hn : (2147483647#32 : BitVec 32) = IKind.minsi.neutral)
    (hx : (2147483648#32 : BitVec 32) = IKind.maxsi.neutral)
    (h₄ : (⟨1, ![1]⟩ : Shape).ShapeCasts ⟨3, ![1, 1, 1]⟩) (h₅ : ∀ a, (![0, 0, 0] : Fin 3 → Nat) a < (⟨3, ![1, 1, 1]⟩ : Shape).size a)
    (i : (⟨2, ![256, 1]⟩ : Shape).Idx) :
    (extractAt (s := ⟨3, ![1, 1, 1]⟩) ![0, 0, 0] (shapeCast ⟨3, ![1, 1, 1]⟩ (multiReductionI .minsi [1, 2] ⟨1, ![1]⟩
      (shapeCast ⟨3, ![1, 256, 1]⟩ v h₁) 2147483647#32 h₂ hn) h₄) h₅).toInt ≤ (v i).toInt
    ∧ (v i).toInt ≤ (extractAt (s := ⟨3, ![1, 1, 1]⟩) ![0, 0, 0] (shapeCast ⟨3, ![1, 1, 1]⟩ (multiReductionI .maxsi [1, 2] ⟨1, ![1]⟩
      (shapeCast ⟨3, ![1, 256, 1]⟩ v h₁) 2147483648#32 h₂ hx) h₄) h₅).toInt := by
  have hall : ∀ (n : Fin (⟨3, ![1, 256, 1]⟩ : Shape).numel) (j : (⟨1, ![1]⟩ : Shape).Idx), h₂.drop ((⟨3, ![1, 256, 1]⟩ : Shape).rowMajor.symm n) = j := by
    intro n j
    funext a
    have h1 : (⟨1, ![1]⟩ : Shape).size a = 1 := by fin_cases a; rfl
    apply Fin.ext
    have := (h₂.drop ((⟨3, ![1, 256, 1]⟩ : Shape).rowMajor.symm n) a).isLt
    have := (j a).isLt
    omega
  let k := (⟨3, ![1, 256, 1]⟩ : Shape).rowMajor ((Shape.reshapeEquiv h₁).symm i)
  have hk : shapeCast ⟨3, ![1, 256, 1]⟩ v h₁ ((⟨3, ![1, 256, 1]⟩ : Shape).rowMajor.symm k) = v i := by
    show v (Shape.reshapeEquiv h₁ ((⟨3, ![1, 256, 1]⟩ : Shape).rowMajor.symm ((⟨3, ![1, 256, 1]⟩ : Shape).rowMajor ((Shape.reshapeEquiv h₁).symm i)))) = v i
    rw [Equiv.symm_apply_apply, Equiv.apply_symm_apply]
  have hmem : ∀ j, k ∈ (List.finRange (⟨3, ![1, 256, 1]⟩ : Shape).numel).filter fun n => h₂.drop ((⟨3, ![1, 256, 1]⟩ : Shape).rowMajor.symm n) = j := fun j =>
    List.mem_filter.2 ⟨List.mem_finRange _, decide_eq_true (hall k j)⟩
  rw [← hk]
  exact ⟨(foldl_minsi _ _ _).2 k (hmem _), (foldl_maxsi _ _ _).2 k (hmem _)⟩

end Cert.Knn

namespace Cert.KernelIdeal.Knn

open Cert.KernelIdeal Cert.KernelIdeal.Gen Idealize.ShloMosaic Cert.Knn Finset

/-- The least cloud of a block. -/
def leastCloud (own : IVec S256x1 32) : BitVec 32 :=
  extractAt (s := S1x1x1) ![0, 0, 0] (shapeCast S1x1x1 (multiReductionI .minsi [1, 2] S1
    (shapeCast S1x256x1 (shapeCast S256x1 own shapeCasts_S256x1_S256x1) shapeCasts_S256x1_S1x256x1) 2147483647#32 reduces_S1x256x1_S1 rfl)
      shapeCasts_S1_S1x1x1) inpos_S1x1x1_p0_0_0

/-- The greatest cloud of a block. -/
def greatestCloud (own : IVec S256x1 32) : BitVec 32 :=
  extractAt (s := S1x1x1) ![0, 0, 0] (shapeCast S1x1x1 (multiReductionI .maxsi [1, 2] S1
    (shapeCast S1x256x1 (shapeCast S256x1 own shapeCasts_S256x1_S256x1) shapeCasts_S256x1_S1x256x1) 2147483648#32 reduces_S1x256x1_S1 rfl)
      shapeCasts_S1_S1x1x1) inpos_S1x1x1_p0_0_0

theorem within_bounds (own : IVec S256x1 32) (i : Fin 256) :
    (leastCloud own).toInt ≤ (own (ix2 i 0)).toInt ∧ (own (ix2 i 0)).toInt ≤ (greatestCloud own).toInt := by
  have h := column_bounds (shapeCast S256x1 own shapeCasts_S256x1_S256x1) shapeCasts_S256x1_S1x256x1 reduces_S1x256x1_S1 rfl rfl
    shapeCasts_S1_S1x1x1 inpos_S1x1x1_p0_0_0 (ix2 i 0)
  have hown : shapeCast S256x1 own shapeCasts_S256x1_S256x1 (ix2 i 0) = own (ix2 i 0) :=
    congrFun (shapeCast_self own shapeCasts_S256x1_S256x1) _
  exact ⟨h.1.trans_eq (congrArg BitVec.toInt hown), (congrArg BitVec.toInt hown).symm.trans_le h.2⟩

theorem before_eq {F : FTy → Type} [FloatOps F] (own : Vec F S256x1 .i32) (all : Vec F S1x8192 .i32) :
    (before (F := F) own all).toNat
      = (univ.filter fun j : Fin 8192 => cmpi .slt (k0_pay259 (F := F) all) (broadcast S1x8192 (leastCloud own)) (rowAt j) = 1#1).card :=
  count_word (cmpi .slt (k0_pay259 (F := F) all) (broadcast S1x8192 (leastCloud own))) _ _ _ _ _ _

theorem upto_eq {F : FTy → Type} [FloatOps F] (own : Vec F S256x1 .i32) (all : Vec F S1x8192 .i32) :
    (upto (F := F) own all).toNat
      = (univ.filter fun j : Fin 8192 => cmpi .sle (k0_pay259 (F := F) all) (broadcast S1x8192 (greatestCloud own)) (rowAt j) = 1#1).card :=
  count_word (cmpi .sle (k0_pay259 (F := F) all) (broadcast S1x8192 (greatestCloud own))) _ _ _ _ _ _

/-- Sorted clouds: the points of point `i`'s cloud lie among those the kernel sweeps. -/
theorem span {F : FTy → Type} [FloatOps F] (own : Vec F S256x1 .i32) (all : Vec F S1x8192 .i32)
    (hs : ∀ j k : Fin 8192, j ≤ k → (all (ix2 0 j) : BitVec 32).toInt ≤ (all (ix2 0 k) : BitVec 32).toInt) (i : Fin 256) (j : Fin 8192)
    (h : own (ix2 i 0) = all (ix2 0 j)) : (before (F := F) own all).toNat ≤ j.val ∧ j.val < (upto (F := F) own all).toNat := by
  obtain ⟨hlo, hhi⟩ := within_bounds own i
  rw [before_eq, upto_eq]
  generalize leastCloud own = lo at hlo ⊢
  generalize greatestCloud own = hi at hhi ⊢
  rw [h] at hlo hhi
  have hall : ∀ k : Fin 8192, k0_pay259 (F := F) all (rowAt k) = all (ix2 0 k) := fun k =>
    congrFun (shapeCast_self all shapeCasts_S1x8192_S1x8192) _
  constructor
  · refine (card_le_card (t := (univ.filter fun k : Fin 8192 => k < j)) fun k hk => ?_).trans ?_
    · rw [mem_filter] at hk ⊢
      refine ⟨hk.1, ?_⟩
      have h0 : (k0_pay259 (F := F) all (rowAt k) : BitVec 32).toInt < lo.toInt := IntOp.cmpi_slt.1 hk.2
      rw [hall k] at h0
      by_contra h2
      exact absurd (hs j k (not_lt.1 h2)) (not_le.2 (h0.trans_le hlo))
    · have : (univ.filter fun k : Fin 8192 => k < j) = Iio j := by ext; simp
      rw [this, Fin.card_Iio]
  · refine lt_of_lt_of_le ?_ (card_le_card (s := (univ.filter fun k : Fin 8192 => k ≤ j)) fun k hk => ?_)
    · have : (univ.filter fun k : Fin 8192 => k ≤ j) = Iic j := by ext; simp
      rw [this, Fin.card_Iic]
      omega
    · rw [mem_filter] at hk ⊢
      refine ⟨hk.1, IntOp.cmpi_sle.2 ?_⟩
      show (k0_pay259 (F := F) all (rowAt k) : BitVec 32).toInt ≤ hi.toInt
      rw [hall k]
      exact (hs k j hk.2).trans hhi

end Cert.KernelIdeal.Knn

end
-- ==== Proof.Order.lean ====
/- What the precondition says: finite distances, clouds numbered below eight, and in order. -/
module

public import proofs.«01_k».proof.Pre_clouds_in_order
public import proofs.«01_k».proof.Proof.Round
public import proofs.«01_k».proof.Proof.Spec
public import Idealize.ShloMosaic.Lib.ReduceAll
public import Idealize.ShloMosaic.Lib.Pointwise
public import Idealize.ShloMosaic.Lib.IdealHost

@[expose] public section

set_option maxRecDepth 16384

noncomputable section

namespace Cert.Knn

open Idealize.ShloMosaic Finset Cert.KernelIdeal.Knn

/-- An extended real of magnitude at most `2 ^ 60` is a real one. -/
theorem real_of_le (x : EReal) (h : max x (-x) ≤ (((2 : ℝ) ^ 60 : ℝ) : EReal)) : ∃ r : ℝ, x = (r : EReal) ∧ |r| ≤ 2 ^ 60 := by
  induction x with
  | bot => exact absurd ((le_max_right _ _).trans h) (by rw [EReal.neg_bot, top_le_iff]; exact EReal.coe_ne_top _)
  | top => exact absurd ((le_max_left _ _).trans h) (by rw [top_le_iff]; exact EReal.coe_ne_top _)
  | coe r =>
    refine ⟨r, rfl, ?_⟩
    have h1 : ((r : ℝ) : EReal) ≤ (((2 : ℝ) ^ 60 : ℝ) : EReal) := (le_max_left _ _).trans h
    have h2 : ((-r : ℝ) : EReal) ≤ (((2 : ℝ) ^ 60 : ℝ) : EReal) := (by rw [EReal.coe_neg]; exact le_max_right _ _ : ((-r : ℝ) : EReal) ≤ _).trans h
    exact abs_le'.2 ⟨EReal.coe_le_coe_iff.1 h1, EReal.coe_le_coe_iff.1 h2⟩

/-- The square of a difference of reals of magnitude at most `2 ^ 60`. -/
theorem square_le (a b : ℝ) (ha : |a| ≤ 2 ^ 60) (hb : |b| ≤ 2 ^ 60) : (a - b) * (a - b) ≤ 2 ^ 122 := by
  have h : |a - b| ≤ 2 ^ 61 := (abs_sub a b).trans (by linarith)
  have := abs_mul_abs_self (a - b)
  rw [← this]
  calc |a - b| * |a - b| ≤ 2 ^ 61 * 2 ^ 61 := mul_le_mul h h (abs_nonneg _) (by positivity)
    _ = 2 ^ 122 := by norm_num

theorem far_lt_big (P : Fin 8192 → Fin 3 → EReal) (h : ∀ i c, ∃ r : ℝ, P i c = (r : EReal) ∧ |r| ≤ 2 ^ 60) (i j : Fin 8192) :
    far P i j < big := by
  obtain ⟨a0, ha0, h0⟩ := h i 0
  obtain ⟨a1, ha1, h1⟩ := h i 1
  obtain ⟨a2, ha2, h2⟩ := h i 2
  obtain ⟨b0, hb0, k0⟩ := h j 0
  obtain ⟨b1, hb1, k1⟩ := h j 1
  obtain ⟨b2, hb2, k2⟩ := h j 2
  unfold far
  rw [ha0, ha1, ha2, hb0, hb1, hb2, big_eq]
  norm_cast
  have s0 := square_le a0 b0 h0 k0
  have s1 := square_le a1 b1 h1 k1
  have s2 := square_le a2 b2 h2 k2
  norm_num at s0 s1 s2 ⊢
  linarith

end Cert.Knn

namespace Cert.Pre_clouds_in_order

open Idealize.ShloMosaic Finset Cert.Knn

theorem sixty : Ideal.ofBits .f32 0x5D800000#32 = (((2 : ℝ) ^ 60 : ℝ) : EReal) := by
  simp [Ideal.ofBits, Ideal.ieee]
  norm_cast

theorem of_word (p : Prop) [Decidable p] (h : BitVec.ofBool (decide p) = 1#1) : p := by
  by_contra hn
  rw [decide_eq_false hn] at h
  exact absurd h (by decide)

variable [Facts]
open Facts

instance : Subsingleton S_.Idx := ⟨fun i j => funext fun a => a.elim0⟩

theorem decode (a0 : FVec Ideal S8192x3 .f32) (a1 : IVec S8192 32) (a2 : FVec Ideal S96x1024 .f32) (a3 : FVec Ideal S1024 .f32)
    (a4 : FVec Ideal S1024x256 .f32) (a5 : FVec Ideal S256 .f32) (a6 : FVec Ideal S256x9 .f32) (a7 : FVec Ideal S9 .f32)
    (j : S_.Idx) (h : fn (F := Ideal) a0 a1 a2 a3 a4 a5 a6 a7 j = 1#1) :
    (∀ i c, max (a0 (ix2 i c)) (-a0 (ix2 i c)) ≤ (((2 : ℝ) ^ 60 : ℝ) : EReal))
      ∧ (∀ i, 0 ≤ (a1 (ix1 i)).toInt ∧ (a1 (ix1 i)).toInt < 8)
      ∧ ∀ i : Fin 8191, (a1 (ix1 ⟨i.val, by omega⟩)).toInt ≤ (a1 (ix1 ⟨1 + i.val, by omega⟩)).toInt := by
  obtain ⟨h01, h2⟩ := IntOp.andi_eq_one.1 h
  obtain ⟨h0, h1⟩ := IntOp.andi_eq_one.1 h01
  refine ⟨fun i c => ?_, fun i => ?_, fun i => ?_⟩
  · have e := Host.reduce_andi_all _ _ reducesTo_S8192x3_S_d0_1 h_S_ j h0 (ix2 i c)
    rw [← sixty]
    exact of_word _ e
  · obtain ⟨e1, e2⟩ := IntOp.andi_eq_one.1 (Host.reduce_andi_all _ _ reducesTo_S8192_S_d0 h_S_ j h1 (ix1 i))
    exact ⟨IntOp.cmpi_sge.1 e1, IntOp.cmpi_slt.1 e2⟩
  · have e := Host.reduce_andi_all _ _ reducesTo_S8191_S_d0 h_S_ j h2 (ix1 i)
    have e' := IntOp.cmpi_sle.1 e
    revert e'
    pointwise []
    exact fun e' => e'

/-- The precondition, as the proof uses it. -/
theorem facts_of (a0 : FVec Ideal S8192x3 .f32) (a1 : IVec S8192 32) (a2 : FVec Ideal S96x1024 .f32) (a3 : FVec Ideal S1024 .f32)
    (a4 : FVec Ideal S1024x256 .f32) (a5 : FVec Ideal S256 .f32) (a6 : FVec Ideal S256x9 .f32) (a7 : FVec Ideal S9 .f32)
    (j : S_.Idx) (h : fn (F := Ideal) a0 a1 a2 a3 a4 a5 a6 a7 j = 1#1) :
    (∀ i k, far (fun n c => a0 (ix2 n c)) i k < Cert.KernelIdeal.Knn.big)
      ∧ (∀ i, (a1 (ix1 i)).toNat < 8)
      ∧ ∀ i k : Fin 8192, i ≤ k → (a1 (ix1 i)).toInt ≤ (a1 (ix1 k)).toInt := by
  obtain ⟨h0, h1, h2⟩ := decode a0 a1 a2 a3 a4 a5 a6 a7 j h
  refine ⟨fun i k => far_lt_big _ (fun n c => real_of_le _ (h0 n c)) i k, fun i => ?_, ?_⟩
  · obtain ⟨k0, k1⟩ := h1 i
    have := BitVec.toInt_eq_toNat_cond (a1 (ix1 i))
    split_ifs at this <;> omega
  · have key : ∀ d : ℕ, ∀ i : Fin 8192, ∀ hd : i.val + d < 8192, (a1 (ix1 i)).toInt ≤ (a1 (ix1 ⟨i.val + d, hd⟩)).toInt := by
      intro d
      induction d with
      | zero => exact fun i hd => le_refl _
      | succ d ih =>
        intro i hd
        refine (ih i (by omega)).trans ((h2 ⟨i.val + d, by omega⟩).trans_eq ?_)
        refine congrArg (fun k => (a1 (ix1 k)).toInt) (Fin.ext ?_)
        show 1 + (i.val + d) = i.val + (d + 1)
        omega
    intro i k hik
    have hik' : i.val ≤ k.val := hik
    refine (key (k.val - i.val) i (by have := k.isLt; omega)).trans_eq ?_
    refine congrArg (fun k => (a1 (ix1 k)).toInt) (Fin.ext ?_)
    show i.val + (k.val - i.val) = k.val
    omega

end Cert.Pre_clouds_in_order

end
-- ==== Proof.Block.lean ====
/- What a block of 256 points adds to the kernel's two tables. -/
module

public import proofs.«01_k».proof.Proof.Layers
public import proofs.«01_k».proof.Proof.Span
public import proofs.«01_k».proof.Proof.Order

@[expose] public section

set_option maxRecDepth 16384

/-!
# One block

Points in order, a block's selected points are the neighbours of the specification, so its network's outputs are the
specification's: the kernel takes the features coordinate by coordinate where the specification takes them neighbour by
neighbour, and permutes the first matrix's rows alike.
-/

noncomputable section

namespace Cert.KernelIdeal.Knn

open Cert.KernelIdeal Cert.KernelIdeal.Gen Idealize.ShloMosaic Cert.Knn Finset

/-- The row of the first matrix the kernel's feature `q` meets. -/
def rowAs (q : Fin 96) : Fin 96 := ⟨6 * (q.val % 16) + q.val / 16, by omega⟩

/-- The two orders of the features. -/
def reorder : Fin 96 ≃ Fin 96 where
  toFun := rowAs
  invFun q := ⟨16 * (q.val % 6) + q.val / 6, by omega⟩
  left_inv q := Fin.ext (by show 16 * ((6 * (q.val % 16) + q.val / 16) % 6) + (6 * (q.val % 16) + q.val / 16) / 6 = q.val; omega)
  right_inv q := Fin.ext (by show 6 * ((16 * (q.val % 6) + q.val / 6) % 16) + (16 * (q.val % 6) + q.val / 6) / 16 = q.val; omega)

/-- The kernel's feature is the specification's at the row it meets. -/
theorem mixed_eq_feature (P : Fin 8192 → Fin 3 → EReal) (ν : Fin 8192 → Fin 16 → Fin 8192) (n : Fin 8192) (q : Fin 96) :
    mixed (P n 0) (P n 1) (P n 2) (fun k => P (ν n k) 0) (fun k => P (ν n k) 1) (fun k => P (ν n k) 2) (q.val / 16) ⟨q.val % 16, by omega⟩
      = feature P ν n ⟨(rowAs q).val / 6, by omega⟩ ⟨(rowAs q).val % 6, by omega⟩ := by
  have hk : (⟨(rowAs q).val / 6, by omega⟩ : Fin 16) = ⟨q.val % 16, by omega⟩ :=
    Fin.ext (by show (6 * (q.val % 16) + q.val / 16) / 6 = q.val % 16; omega)
  have ht : (⟨(rowAs q).val % 6, by omega⟩ : Fin 6) = ⟨q.val / 16, by omega⟩ :=
    Fin.ext (by show (6 * (q.val % 16) + q.val / 16) % 6 = q.val / 16; omega)
  rw [hk, ht]
  generalize (⟨q.val % 16, by omega⟩ : Fin 16) = k
  obtain ⟨t, hT⟩ : ∃ t : Fin 6, t.val = q.val / 16 := ⟨⟨q.val / 16, by omega⟩, rfl⟩
  have : (⟨q.val / 16, by omega⟩ : Fin 6) = t := Fin.ext hT.symm
  rw [this, ← hT]
  fin_cases t <;> rfl

section Block

variable (P : Fin 8192 → Fin 3 → EReal) (β : Fin 8192 → BitVec 32) (ν : Fin 8192 → Fin 16 → Fin 8192)
  (W1 : Fin 96 → Fin 1024 → EReal) (b1 : Fin 1024 → EReal) (W2 : Fin 1024 → Fin 256 → EReal) (b2 : Fin 256 → EReal)
  (W3 : Fin 256 → Fin 9 → EReal) (b3 : Fin 9 → EReal) (p : Fin 256 → Fin 8192)
  (x1 : Vec Ideal S256x3 .f32) (x2 : Vec Ideal S8192x3 .f32) (x3 : Vec Ideal S3x8192 .f32) (x4 : Vec Ideal S256x1 .i32)
  (x5 : Vec Ideal S1x8192 .i32) (x6 : Vec Ideal S1x256 .i32) (x7 : Vec Ideal S96x1024 .f32) (x8 : Vec Ideal S1x1024 .f32)
  (x9 : Vec Ideal S1024x256 .f32) (x10 : Vec Ideal S1x256 .f32) (x11 : Vec Ideal S256x9 .f32) (x12 : Vec Ideal S1x9 .f32)
  (h1 : ∀ i c, x1 (ix2 i c) = P (p i) c) (h2 : ∀ j c, x2 (ix2 j c) = P j c) (h3 : ∀ c j, x3 (ix2 c j) = P j c)
  (h4 : ∀ i, x4 (ix2 i 0) = β (p i)) (h5 : ∀ j, x5 (ix2 0 j) = β j) (h6 : ∀ i, x6 (ix2 0 i) = β (p i))
  (h7 : ∀ q h, x7 (ix2 q h) = W1 (rowAs q) h) (h8 : ∀ h, x8 (ix2 0 h) = b1 h) (h9 : ∀ h g, x9 (ix2 h g) = W2 h g)
  (h10 : ∀ g, x10 (ix2 0 g) = b2 g) (h11 : ∀ g d, x11 (ix2 g d) = W3 g d) (h12 : ∀ d, x12 (ix2 0 d) = b3 d)
  (hν : Near P β ν) (hfar : ∀ i k, far P i k < big) (hs : ∀ i k : Fin 8192, i ≤ k → (β i).toInt ≤ (β k).toInt)

include h1 h2 h4 h5 in
theorem within_eq (i : Fin 256) : within x1 x2 x4 x5 i = apart P β (p i) := by
  funext j
  unfold within apart
  by_cases hj : j < 8192
  · rw [dif_pos hj, dif_pos hj, h4, h5]
    refine if_congr Iff.rfl ?_ rfl
    unfold dist coord far
    rw [dif_pos hj, dif_pos hj, dif_pos hj, h1, h1, h1, h2, h2, h2]
  · rw [dif_neg hj, dif_neg hj]

include h1 h2 h3 h4 h5 hν hfar hs in
/-- What the kernel selects for a point are its neighbours. -/
theorem nearest_is (i : Fin 256) (k : Fin 16) :
    (nearest (F := Ideal) x1 x2 x3 x4 x5).2.1 (ix2 i k) = P (ν (p i) k) 0
      ∧ (nearest (F := Ideal) x1 x2 x3 x4 x5).2.2.1 (ix2 i k) = P (ν (p i) k) 1
      ∧ (nearest (F := Ideal) x1 x2 x3 x4 x5).2.2.2 (ix2 i k) = P (ν (p i) k) 2 := by
  have hd : ∀ j : Fin 8192, dist x1 x2 i j.val = far P (p i) j := fun j => by
    unfold dist coord far
    rw [dif_pos j.isLt, dif_pos j.isLt, dif_pos j.isLt, h1, h1, h1, h2, h2, h2]
  obtain ⟨j, hj, hr, e⟩ := nearest_at x1 x2 x3 (fun j c => (h3 c j).trans (h2 j c).symm) x4 x5 i
    (fun j _ => (hd j).trans_lt (hfar _ _))
    (fun j h => span (F := Ideal) x4 x5 (fun a b hab => by rw [h5, h5]; exact hs a b hab) i j h)
    ⟨p i, (h4 i).trans (h5 (p i)).symm⟩ k
  rw [within_eq P β p x1 x2 x4 x5 h1 h2 h4 h5 i] at hr
  have hjk : j = (ν (p i) k).val := rank_inj (key_inj _) (mem_range.2 hj) (mem_range.2 (ν (p i) k).isLt) (hr.trans (hν (p i) k).symm)
  subst hjk
  have hc : ∀ c, coord x2 c (ν (p i) k).val = P (ν (p i) k) c := fun c => by
    unfold coord
    rw [dif_pos (ν (p i) k).isLt]
    exact h2 _ _
  rw [hc, hc, hc] at e
  exact e

include h1 h2 h3 h4 h5 h7 hν hfar hs in
theorem first_is (i : Fin 256) (h : Fin 1024) :
    k0_pay293 (F := Ideal) (colX x1) (colY x1) (colZ x1) (nearest x1 x2 x3 x4 x5).2.1 (nearest x1 x2 x3 x4 x5).2.2.1
      (nearest x1 x2 x3 x4 x5).2.2.2 x7 (ix2 i h) = pre1 P ν W1 (p i) h := by
  have hn := nearest_is P β ν p x1 x2 x3 x4 x5 h1 h2 h3 h4 h5 hν hfar hs i
  refine (first_at _ _ _ _ _ _ _ i h).trans ?_
  rw [(col_at x1 i).1, (col_at x1 i).2.1, (col_at x1 i).2.2, h1, h1, h1]
  rw [funext fun k => (hn k).1, funext fun k => (hn k).2.1, funext fun k => (hn k).2.2]
  unfold pre1
  refine Eq.trans (sum_congr rfl fun q _ => ?_) (Equiv.sum_comp reorder fun q => feature P ν (p i) ⟨q.val / 6, by omega⟩ ⟨q.val % 6, by omega⟩ * W1 q h)
  rw [h7]
  exact congrArg (· * W1 (rowAs q) h) (mixed_eq_feature P ν (p i) q)

include h1 h2 h3 h4 h5 h6 h7 h8 h9 h10 h11 h12 hν hfar hs in
/-- A block adds to a cloud's sums its points' outputs. -/
theorem sums_is (old : Vec Ideal S8x9 .f32) (b : Fin 8) (d : Fin 9) :
    sums (F := Ideal) x1 x2 x3 x4 x5 x6 x7 x8 x9 x10 x11 x12 old (ix2 b d)
      = old (ix2 b d) + ∑ i : Fin 256, if β (p i) = BitVec.ofNat 32 b.val then outputs P ν W1 b1 W2 b2 W3 b3 (p i) d else 0 := by
  unfold sums
  refine (sums_step_at _ _ _ _ _ _ _ _ b d).trans (congrArg (old (ix2 b d) + ·) (sum_congr rfl fun i _ => ?_))
  rw [onehot_at, h6, funext h8, funext fun h => funext (h9 h), funext h10, funext fun g => funext (h11 g), funext h12]
  rw [funext (first_is P β ν W1 p x1 x2 x3 x4 x5 x7 h1 h2 h3 h4 h5 h7 hν hfar hs i)]
  by_cases hb : β (p i) = BitVec.ofNat 32 b.val
  · rw [if_pos hb, if_pos hb, one_mul]; rfl
  · rw [if_neg hb, if_neg hb, zero_mul]

include h6 in
/-- A block adds to a cloud's count the number of its points. -/
theorem counts_is (old : Vec Ideal S8x1 .f32) (b : Fin 8) :
    counts (F := Ideal) x6 old (ix2 b 0) = old (ix2 b 0) + ∑ i : Fin 256, if β (p i) = BitVec.ofNat 32 b.val then (1 : EReal) else 0 := by
  unfold counts
  refine (counts_step_at _ _ b).trans (congrArg (old (ix2 b 0) + ·) (sum_congr rfl fun i _ => ?_))
  rw [onehot_at, h6]

end Block

end Cert.KernelIdeal.Knn

end
-- ==== Proof.Host.lean ====
/- The arrays the host operations prepare, at an index. -/
module

public import proofs.«01_k».proof.Proof.Whole
public import proofs.«01_k».proof.Proof.Block

@[expose] public section

set_option maxRecDepth 16384

noncomputable section

namespace Cert.KernelIdeal.Knn

open Cert.KernelIdeal Cert.KernelIdeal.Gen Idealize.ShloMosaic Idealize.ShloMosaic.TcCoe Cert.Knn Finset

/-! ## What the operations compute -/

/-- The first matrix, its rows taken coordinate by coordinate. -/
def permuted (w : Vec Ideal S96x1024 .f32) : Vec Ideal S96x1024 .f32 :=
  concatenate S96x1024 0
    [⟨S48x1024, shapeCast S48x1024 (transpose S3x16x1024 [1, 0, 2] (extractStridedSlice S16x3x1024 ![0, 0, 0]
        (shapeCast S16x6x1024 w shapeCasts_S96x1024_S16x6x1024) slices_S16x6x1024_S16x3x1024_0_0_0) transposes_S16x3x1024_S3x16x1024_1_0_2)
        shapeCasts_S3x16x1024_S48x1024⟩,
      ⟨S48x1024, shapeCast S48x1024 (transpose S3x16x1024 [1, 0, 2] (extractStridedSlice S16x3x1024 ![0, 3, 0]
        (shapeCast S16x6x1024 w shapeCasts_S96x1024_S16x6x1024) slices_S16x6x1024_S16x3x1024_0_3_0) transposes_S16x3x1024_S3x16x1024_1_0_2)
        shapeCasts_S3x16x1024_S48x1024⟩]
    concatenates_S48x1024_S48x1024_S96x1024_d0

theorem permuted_at (w : Vec Ideal S96x1024 .f32) (q : Fin 96) (h : Fin 1024) : permuted w (ix2 q h) = w (ix2 (rowAs q) h) := by
  pointwise [permuted]
  by_cases hq : q.val < 48
  · refine (dif_pos hq).trans ?_
    refine congrArg (fun k => w (ix2 k h)) (Fin.ext ?_)
    show _ = 6 * (q.val % 16) + q.val / 16
    simp only []
    omega
  · refine (dif_neg hq).trans ?_
    refine congrArg (fun k => w (ix2 k h)) (Fin.ext ?_)
    show _ = 6 * (q.val % 16) + q.val / 16
    simp only []
    omega

/-- The table of sums as the second call takes it. -/
def spread (s : Vec Ideal S8x9 .f32) : Vec Ideal S3x24 .f32 :=
  shapeCast S3x24 (transpose S3x3x8 [1, 2, 0] (shapeCast S8x3x3 s shapeCasts_S8x9_S8x3x3) transposes_S8x3x3_S3x3x8_1_2_0) shapeCasts_S3x3x8_S3x24

theorem spread_at (s : Vec Ideal S8x9 .f32) (d : Fin 3) (q : Fin 24) :
    spread s (ix2 d q) = s (ix2 ⟨q.val % 8, by omega⟩ ⟨3 * d.val + q.val / 8, by omega⟩) := by
  pointwise [spread]
  refine congrArg (fun k => s (ix2 _ k)) (Fin.ext ?_)
  show d.val * 3 + q.val / 8 = 3 * d.val + q.val / 8
  omega

theorem column_at (w : IVec S8192 32) (i : Fin 8192) : shapeCast S8192x1 w shapeCasts_S8192_S8192x1 (ix2 i 0) = w (ix1 i) := by
  pointwise []

theorem row8192_at (w : IVec S8192 32) (i : Fin 8192) : shapeCast S1x8192 w shapeCasts_S8192_S1x8192 (ix2 0 i) = w (ix1 i) := by
  pointwise []

theorem row1024_at (w : Vec Ideal S1024 .f32) (i : Fin 1024) : shapeCast S1x1024 w shapeCasts_S1024_S1x1024 (ix2 0 i) = w (ix1 i) := by
  pointwise []

theorem row256_at (w : Vec Ideal S256 .f32) (i : Fin 256) : shapeCast S1x256 w shapeCasts_S256_S1x256 (ix2 0 i) = w (ix1 i) := by
  pointwise []

theorem row9_at (w : Vec Ideal S9 .f32) (i : Fin 9) : shapeCast S1x9 w shapeCasts_S9_S1x9 (ix2 0 i) = w (ix1 i) := by
  pointwise []

theorem counts_row_at (w : Vec Ideal S8x1 .f32) (i : Fin 8) : shapeCast S1x8 w shapeCasts_S8x1_S1x8 (ix2 0 i) = w (ix2 i 0) := by
  pointwise []

/-! ## Where they lie -/

variable (m : (ℓ : Loc nD τ sig) → Buf (Elt Ideal) ℓ) (ρ : Dev nD → PrngReg) (c : Dev nD)

theorem v0_eq : W1 m ρ c (Proc.devRef .tc main_v0) = transpose S3x8192 [1, 0] (m ((c.tc : Thread nD τ).loc main_arg0)) transposes_S8192x3_S3x8192_1_0 := by
  show StableHlo.after hostOps0 (W0 m ρ c) (Proc.devRef .tc main_v0) = _
  after_results
  try rfl
theorem v1_eq : W1 m ρ c (Proc.devRef .tc main_v1) = shapeCast S8192x1 (m ((c.tc : Thread nD τ).loc main_arg1)) shapeCasts_S8192_S8192x1 := by
  show StableHlo.after hostOps0 (W0 m ρ c) (Proc.devRef .tc main_v1) = _
  after_results
  try rfl
theorem v2_eq : W1 m ρ c (Proc.devRef .tc main_v2) = shapeCast S1x8192 (m ((c.tc : Thread nD τ).loc main_arg1)) shapeCasts_S8192_S1x8192 := by
  show StableHlo.after hostOps0 (W0 m ρ c) (Proc.devRef .tc main_v2) = _
  after_results
  try rfl
theorem v3_eq : W1 m ρ c (Proc.devRef .tc main_v3) = shapeCast S1x1024 (m ((c.tc : Thread nD τ).loc main_arg3)) shapeCasts_S1024_S1x1024 := by
  show StableHlo.after hostOps0 (W0 m ρ c) (Proc.devRef .tc main_v3) = _
  after_results
  try rfl
theorem v4_eq : W1 m ρ c (Proc.devRef .tc main_v4) = shapeCast S1x256 (m ((c.tc : Thread nD τ).loc main_arg5)) shapeCasts_S256_S1x256 := by
  show StableHlo.after hostOps0 (W0 m ρ c) (Proc.devRef .tc main_v4) = _
  after_results
  try rfl
theorem v5_eq : W1 m ρ c (Proc.devRef .tc main_v5) = shapeCast S1x9 (m ((c.tc : Thread nD τ).loc main_arg7)) shapeCasts_S9_S1x9 := by
  show StableHlo.after hostOps0 (W0 m ρ c) (Proc.devRef .tc main_v5) = _
  after_results
  try rfl
theorem v13_eq : W1 m ρ c (Proc.devRef .tc main_v13) = permuted (m ((c.tc : Thread nD τ).loc main_arg2)) := by
  show StableHlo.after hostOps0 (W0 m ρ c) (Proc.devRef .tc main_v13) = _
  after_results
  rfl
theorem v17_eq : W3 m ρ c (Proc.devRef .tc main_v17) = spread (W2 m ρ c (Proc.devRef .tc main_v14_0)) := by
  show StableHlo.after hostOps1 (W2 m ρ c) (Proc.devRef .tc main_v17) = _
  after_results
  rfl
theorem v18_eq : W3 m ρ c (Proc.devRef .tc main_v18) = shapeCast S1x8 (W2 m ρ c (Proc.devRef .tc main_v14_1)) shapeCasts_S8x1_S1x8 := by
  show StableHlo.after hostOps1 (W2 m ρ c) (Proc.devRef .tc main_v18) = _
  after_results
  rfl

/-! ## The blocks the calls are given -/

theorem idx0_0 : ∀ t : Fin grid0.N, win0_0.index t 0 = t.val ∧ win0_0.index t 1 = 0 := by decide +kernel

theorem iblk0_0_at (t : Fin cfg0.N) (i : Fin 256) (d : Fin 3) (n : Fin 8192) (hn : n.val = 256 * t.val + i.val) :
    (iblk0 (V1 m ρ) c 0 t : Vec Ideal S256x3 .f32) (ix2 i d) = m ((c.tc : Thread nD τ).loc main_arg0) (ix2 n d) := by
  show V1 m ρ c main_arg0 (((cfg0.win 0).blk t).view.emb (ix2 i d)) = _
  refine (congrFun (W1_args m ρ c main_arg0 (by decide)) _).trans ?_
  refine congrArg (m ((c.tc : Thread nD τ).loc main_arg0)) (funext fun a => Fin.ext ?_)
  refine (Pipeline.Window.rect_emb_val win0_0 t (ix2 i d) a).trans ?_
  fin_cases a
  · show win0_0.index t 0 * 256 + i.val = n.val
    rw [(idx0_0 t).1]; omega
  · show win0_0.index t 1 * 3 + d.val = d.val
    rw [(idx0_0 t).2]; omega

theorem idx0_3 : ∀ t : Fin grid0.N, win0_3.index t 0 = t.val ∧ win0_3.index t 1 = 0 := by decide +kernel

theorem iblk0_3_at (t : Fin cfg0.N) (i : Fin 256) (n : Fin 8192) (hn : n.val = 256 * t.val + i.val) :
    (iblk0 (V1 m ρ) c 3 t : Vec Ideal S256x1 .i32) (ix2 i 0) = m ((c.tc : Thread nD τ).loc main_arg1) (ix1 n) := by
  show V1 m ρ c main_v1 (((cfg0.win 3).blk t).view.emb (ix2 i 0)) = _
  refine (congrFun (v1_eq m ρ c) _).trans (Eq.trans ?_ (column_at _ n))
  refine congrArg (shapeCast S8192x1 (m ((c.tc : Thread nD τ).loc main_arg1)) shapeCasts_S8192_S8192x1) (funext fun a => Fin.ext ?_)
  refine (Pipeline.Window.rect_emb_val win0_3 t (ix2 i 0) a).trans ?_
  fin_cases a
  · show win0_3.index t 0 * 256 + i.val = n.val
    rw [(idx0_3 t).1]; omega
  · show win0_3.index t 1 * 1 + 0 = 0
    rw [(idx0_3 t).2]

theorem idx0_5 : ∀ t : Fin grid0.N, win0_5.index t 0 = 0 ∧ win0_5.index t 1 = t.val := by decide +kernel

theorem iblk0_5_at (t : Fin cfg0.N) (i : Fin 256) (n : Fin 8192) (hn : n.val = 256 * t.val + i.val) :
    (iblk0 (V1 m ρ) c 5 t : Vec Ideal S1x256 .i32) (ix2 0 i) = m ((c.tc : Thread nD τ).loc main_arg1) (ix1 n) := by
  show V1 m ρ c main_v2 (((cfg0.win 5).blk t).view.emb (ix2 0 i)) = _
  refine (congrFun (v2_eq m ρ c) _).trans (Eq.trans ?_ (row8192_at _ n))
  refine congrArg (shapeCast S1x8192 (m ((c.tc : Thread nD τ).loc main_arg1)) shapeCasts_S8192_S1x8192) (funext fun a => Fin.ext ?_)
  refine (Pipeline.Window.rect_emb_val win0_5 t (ix2 0 i) a).trans ?_
  fin_cases a
  · show win0_5.index t 0 * 1 + 0 = 0
    rw [(idx0_5 t).1]
  · show win0_5.index t 1 * 256 + i.val = n.val
    rw [(idx0_5 t).2]; omega

/-! The other blocks are whole arrays. -/

theorem idx0_1 : ∀ (t : Fin grid0.N) (a : Fin 2), win0_1.index t a = 0 := by decide +kernel
theorem iblk0_1_eq (t : Fin cfg0.N) : (iblk0 (V1 m ρ) c 1 t : Vec Ideal S8192x3 .f32) = W1 m ρ c (Proc.devRef .tc main_arg0) :=
  funext fun i => congrArg (W1 m ρ c (Proc.devRef .tc main_arg0)) (funext fun a => Fin.ext (Pipeline.Window.rect_emb_val_of_index_zero win0_1 t a (idx0_1 t a) i))
theorem idx0_2 : ∀ (t : Fin grid0.N) (a : Fin 2), win0_2.index t a = 0 := by decide +kernel
theorem iblk0_2_eq (t : Fin cfg0.N) : (iblk0 (V1 m ρ) c 2 t : Vec Ideal S3x8192 .f32) = W1 m ρ c (Proc.devRef .tc main_v0) :=
  funext fun i => congrArg (W1 m ρ c (Proc.devRef .tc main_v0)) (funext fun a => Fin.ext (Pipeline.Window.rect_emb_val_of_index_zero win0_2 t a (idx0_2 t a) i))
theorem idx0_4 : ∀ (t : Fin grid0.N) (a : Fin 2), win0_4.index t a = 0 := by decide +kernel
theorem iblk0_4_eq (t : Fin cfg0.N) : (iblk0 (V1 m ρ) c 4 t : Vec Ideal S1x8192 .i32) = W1 m ρ c (Proc.devRef .tc main_v2) :=
  funext fun i => congrArg (W1 m ρ c (Proc.devRef .tc main_v2)) (funext fun a => Fin.ext (Pipeline.Window.rect_emb_val_of_index_zero win0_4 t a (idx0_4 t a) i))
theorem idx0_6 : ∀ (t : Fin grid0.N) (a : Fin 2), win0_6.index t a = 0 := by decide +kernel
theorem iblk0_6_eq (t : Fin cfg0.N) : (iblk0 (V1 m ρ) c 6 t : Vec Ideal S96x1024 .f32) = W1 m ρ c (Proc.devRef .tc main_v13) :=
  funext fun i => congrArg (W1 m ρ c (Proc.devRef .tc main_v13)) (funext fun a => Fin.ext (Pipeline.Window.rect_emb_val_of_index_zero win0_6 t a (idx0_6 t a) i))
theorem idx0_7 : ∀ (t : Fin grid0.N) (a : Fin 2), win0_7.index t a = 0 := by decide +kernel
theorem iblk0_7_eq (t : Fin cfg0.N) : (iblk0 (V1 m ρ) c 7 t : Vec Ideal S1x1024 .f32) = W1 m ρ c (Proc.devRef .tc main_v3) :=
  funext fun i => congrArg (W1 m ρ c (Proc.devRef .tc main_v3)) (funext fun a => Fin.ext (Pipeline.Window.rect_emb_val_of_index_zero win0_7 t a (idx0_7 t a) i))
theorem idx0_8 : ∀ (t : Fin grid0.N) (a : Fin 2), win0_8.index t a = 0 := by decide +kernel
theorem iblk0_8_eq (t : Fin cfg0.N) : (iblk0 (V1 m ρ) c 8 t : Vec Ideal S1024x256 .f32) = W1 m ρ c (Proc.devRef .tc main_arg4) :=
  funext fun i => congrArg (W1 m ρ c (Proc.devRef .tc main_arg4)) (funext fun a => Fin.ext (Pipeline.Window.rect_emb_val_of_index_zero win0_8 t a (idx0_8 t a) i))
theorem idx0_9 : ∀ (t : Fin grid0.N) (a : Fin 2), win0_9.index t a = 0 := by decide +kernel
theorem iblk0_9_eq (t : Fin cfg0.N) : (iblk0 (V1 m ρ) c 9 t : Vec Ideal S1x256 .f32) = W1 m ρ c (Proc.devRef .tc main_v4) :=
  funext fun i => congrArg (W1 m ρ c (Proc.devRef .tc main_v4)) (funext fun a => Fin.ext (Pipeline.Window.rect_emb_val_of_index_zero win0_9 t a (idx0_9 t a) i))
theorem idx0_10 : ∀ (t : Fin grid0.N) (a : Fin 2), win0_10.index t a = 0 := by decide +kernel
theorem iblk0_10_eq (t : Fin cfg0.N) : (iblk0 (V1 m ρ) c 10 t : Vec Ideal S256x9 .f32) = W1 m ρ c (Proc.devRef .tc main_arg6) :=
  funext fun i => congrArg (W1 m ρ c (Proc.devRef .tc main_arg6)) (funext fun a => Fin.ext (Pipeline.Window.rect_emb_val_of_index_zero win0_10 t a (idx0_10 t a) i))
theorem idx0_11 : ∀ (t : Fin grid0.N) (a : Fin 2), win0_11.index t a = 0 := by decide +kernel
theorem iblk0_11_eq (t : Fin cfg0.N) : (iblk0 (V1 m ρ) c 11 t : Vec Ideal S1x9 .f32) = W1 m ρ c (Proc.devRef .tc main_v5) :=
  funext fun i => congrArg (W1 m ρ c (Proc.devRef .tc main_v5)) (funext fun a => Fin.ext (Pipeline.Window.rect_emb_val_of_index_zero win0_11 t a (idx0_11 t a) i))

end Cert.KernelIdeal.Knn

end
-- ==== Proof.Total.lean ====
/- The kernel's two tables after the last block. -/
module

public import proofs.«01_k».proof.Proof.Host

@[expose] public section

set_option maxRecDepth 16384

/-!
# The tables

Block after block the first call adds to its two tables; after the last block they hold every cloud's sums and number of points.
-/

noncomputable section

namespace Cert.Knn

open Finset

/-- A sum over the points, block by block. -/
theorem sum_blocks (g : ℕ → EReal) (n : ℕ) :
    ∑ t ∈ range n, ∑ i : Fin 256, g (256 * t + i.val) = ∑ j ∈ range (256 * n), g j := by
  induction n with
  | zero => rfl
  | succ n ih =>
    rw [sum_range_succ, ih, show 256 * (n + 1) = 256 * n + 256 from rfl, sum_range_add]
    exact congrArg (_ + ·) (sum_range fun i => g (256 * n + i)).symm

/-- A function of the points as one of all numbers. -/
def onPoints (f : Fin 8192 → EReal) (j : ℕ) : EReal := if h : j < 8192 then f ⟨j, h⟩ else 0

theorem onPoints_at (f : Fin 8192 → EReal) (j : Fin 8192) : onPoints f j.val = f j := dif_pos j.isLt

theorem sum_onPoints (f : Fin 8192 → EReal) : ∑ j ∈ range 8192, onPoints f j = ∑ i, f i := by
  rw [sum_range]
  exact sum_congr rfl fun i _ => onPoints_at f i

end Cert.Knn

namespace Cert.KernelIdeal.Knn

open Cert.KernelIdeal Cert.KernelIdeal.Gen Idealize.ShloMosaic Idealize.ShloMosaic.TcCoe Cert.Knn Finset

variable (m : (ℓ : Loc nD τ sig) → Buf (Elt Ideal) ℓ) (ρ : Dev nD → PrngReg) (c : Dev nD)

/-! ## The arguments, by coordinates -/

abbrev P (i : Fin 8192) (d : Fin 3) : EReal := (m ((c.tc : Thread nD τ).loc main_arg0) : Vec Ideal S8192x3 .f32) (ix2 i d)
abbrev β (i : Fin 8192) : BitVec 32 := (m ((c.tc : Thread nD τ).loc main_arg1) : Vec Ideal S8192 .i32) (ix1 i)
abbrev M1 (q : Fin 96) (h : Fin 1024) : EReal := (m ((c.tc : Thread nD τ).loc main_arg2) : Vec Ideal S96x1024 .f32) (ix2 q h)
abbrev c1 (h : Fin 1024) : EReal := (m ((c.tc : Thread nD τ).loc main_arg3) : Vec Ideal S1024 .f32) (ix1 h)
abbrev M2 (h : Fin 1024) (g : Fin 256) : EReal := (m ((c.tc : Thread nD τ).loc main_arg4) : Vec Ideal S1024x256 .f32) (ix2 h g)
abbrev c2 (g : Fin 256) : EReal := (m ((c.tc : Thread nD τ).loc main_arg5) : Vec Ideal S256 .f32) (ix1 g)
abbrev M3 (g : Fin 256) (d : Fin 9) : EReal := (m ((c.tc : Thread nD τ).loc main_arg6) : Vec Ideal S256x9 .f32) (ix2 g d)
abbrev c3 (d : Fin 9) : EReal := (m ((c.tc : Thread nD τ).loc main_arg7) : Vec Ideal S9 .f32) (ix1 d)

/-- Point `i` of block `t`. -/
def pointOf (t : Fin cfg0.N) (i : Fin 256) : Fin 8192 :=
  ⟨256 * t.val + i.val, by have : t.val < 32 := lt_of_lt_of_eq t.isLt N_0; omega⟩

section Points

variable (ν : Fin 8192 → Fin 16 → Fin 8192) (hν : Near (P m c) (β m c) ν) (hfar : ∀ i k, far (P m c) i k < big)
  (hs : ∀ i k : Fin 8192, i ≤ k → (β m c i).toInt ≤ (β m c k).toInt)

/-- What a point adds to a cloud's sum. -/
def share (b : Fin 8) (d : Fin 9) (i : Fin 8192) : EReal :=
  if β m c i = BitVec.ofNat 32 b.val then outputs (P m c) ν (M1 m c) (c1 m c) (M2 m c) (c2 m c) (M3 m c) (c3 m c) i d else 0

/-- What a point adds to a cloud's number of points. -/
def tick (b : Fin 8) (i : Fin 8192) : EReal := if β m c i = BitVec.ofNat 32 b.val then 1 else 0

include hν hfar hs in
theorem sumsAt_at (t : Fin cfg0.N) (old : Vec Ideal S8x9 .f32) (b : Fin 8) (d : Fin 9) :
    sumsAt (V1 m ρ) c t old (ix2 b d) = old (ix2 b d) + ∑ i : Fin 256, onPoints (share m c ν b d) (256 * t.val + i.val) := by
  refine (sums_is (P m c) (β m c) ν (M1 m c) (c1 m c) (M2 m c) (c2 m c) (M3 m c) (c3 m c) (pointOf t) _ _ _ _ _ _ _ _ _ _ _ _
    (fun i d => iblk0_0_at m ρ c t i d _ rfl)
    (fun j d => (congrFun (iblk0_1_eq m ρ c t) _).trans (congrFun (W1_args m ρ c main_arg0 (by decide)) _))
    (fun d j => (congrFun (iblk0_2_eq m ρ c t) _).trans ((congrFun (v0_eq m ρ c) _).trans (by pointwise [])))
    (fun i => iblk0_3_at m ρ c t i _ rfl)
    (fun j => (congrFun (iblk0_4_eq m ρ c t) _).trans ((congrFun (v2_eq m ρ c) _).trans (row8192_at _ j)))
    (fun i => iblk0_5_at m ρ c t i _ rfl)
    (fun q h => (congrFun (iblk0_6_eq m ρ c t) _).trans ((congrFun (v13_eq m ρ c) _).trans (permuted_at _ q h)))
    (fun h => (congrFun (iblk0_7_eq m ρ c t) _).trans ((congrFun (v3_eq m ρ c) _).trans (row1024_at _ h)))
    (fun h g => (congrFun (iblk0_8_eq m ρ c t) _).trans (congrFun (W1_args m ρ c main_arg4 (by decide)) _))
    (fun g => (congrFun (iblk0_9_eq m ρ c t) _).trans ((congrFun (v4_eq m ρ c) _).trans (row256_at _ g)))
    (fun g d => (congrFun (iblk0_10_eq m ρ c t) _).trans (congrFun (W1_args m ρ c main_arg6 (by decide)) _))
    (fun d => (congrFun (iblk0_11_eq m ρ c t) _).trans ((congrFun (v5_eq m ρ c) _).trans (row9_at _ d)))
    hν hfar hs old b d).trans ?_
  exact congrArg (old (ix2 b d) + ·) (sum_congr rfl fun i _ => (onPoints_at (share m c ν b d) (pointOf t i)).symm)

theorem counts_at (t : Fin cfg0.N) (old : Vec Ideal S8x1 .f32) (b : Fin 8) :
    counts (iblk0 (V1 m ρ) c 5 t) old (ix2 b 0) = old (ix2 b 0) + ∑ i : Fin 256, onPoints (tick m c b) (256 * t.val + i.val) := by
  refine (counts_is (β m c) (pointOf t) _ (fun i => iblk0_5_at m ρ c t i _ rfl) old b).trans ?_
  exact congrArg (old (ix2 b 0) + ·) (sum_congr rfl fun i _ => (onPoints_at (tick m c b) (pointOf t i)).symm)

include hν hfar hs in
/-- After block `n` the tables hold what the blocks so far add. -/
theorem outs_at (b : Fin 8) (d : Fin 9) : ∀ (n : ℕ) (hn : n < cfg0.N),
    (outsAt0 (V1 m ρ) c n hn).1 (ix2 b d) = ∑ t ∈ range (n + 1), ∑ i : Fin 256, onPoints (share m c ν b d) (256 * t + i.val)
      ∧ (outsAt0 (V1 m ρ) c n hn).2 (ix2 b 0) = ∑ t ∈ range (n + 1), ∑ i : Fin 256, onPoints (tick m c b) (256 * t + i.val) := by
  intro n
  induction n with
  | zero =>
    intro hn
    rw [sum_range_one, sum_range_one]
    constructor
    · refine (sumsAt_at m ρ c ν hν hfar hs ⟨0, hn⟩ _ b d).trans ?_
      rw [(zeros_at b d).1, zero_add]
    · refine (counts_at m ρ c ⟨0, hn⟩ _ b).trans ?_
      rw [(zeros_at b d).2, zero_add]
  | succ n ih =>
    intro hn
    obtain ⟨h1, h2⟩ := ih (Nat.lt_of_succ_lt hn)
    rw [sum_range_succ _ (n + 1), sum_range_succ _ (n + 1), ← h1, ← h2]
    exact ⟨sumsAt_at m ρ c ν hν hfar hs ⟨n + 1, hn⟩ _ b d, counts_at m ρ c ⟨n + 1, hn⟩ _ b⟩

include hν hfar hs in
/-- After the last block they hold every cloud's sums and number of points. -/
theorem outs_last (b : Fin 8) (d : Fin 9) (n : ℕ) (hn : n < cfg0.N) (h31 : n = 31) :
    (outsAt0 (V1 m ρ) c n hn).1 (ix2 b d)
        = total (P m c) (β m c) ν (M1 m c) (c1 m c) (M2 m c) (c2 m c) (M3 m c) (c3 m c) (BitVec.ofNat 32 b.val) d
      ∧ (outsAt0 (V1 m ρ) c n hn).2 (ix2 b 0) = members (β m c) (BitVec.ofNat 32 b.val) := by
  obtain ⟨h1, h2⟩ := outs_at m ρ c ν hν hfar hs b d n hn
  subst h31
  rw [sum_blocks] at h1 h2
  exact ⟨h1.trans (sum_onPoints _), h2.trans (sum_onPoints _)⟩

end Points

end Cert.KernelIdeal.Knn

end
-- ==== Proof.Close.lean ====
/- The kernel's result at an index. -/
module

public import proofs.«01_k».proof.Proof.Total

@[expose] public section

set_option maxRecDepth 16384

/-!
# The result

The second call multiplies each point by every cloud's mean matrix weighed by one for its own cloud and by zero for the others.
-/

noncomputable section

namespace Cert.KernelIdeal.Knn

open Cert.KernelIdeal Cert.KernelIdeal.Gen Idealize.ShloMosaic Idealize.ShloMosaic.TcCoe Cert.Knn Finset
open Idealize.ShloMosaic.Pipeline (Dat)

variable (m : (ℓ : Loc nD τ sig) → Buf (Elt Ideal) ℓ) (ρ : Dev nD → PrngReg) (c : Dev nD)

/-! ## The first call's arrays -/

theorem disjoint12 : ∀ t t' : Fin cfg0.N, (cfg0.win 12).flush t = true → (cfg0.win 12).flush t' = true → t ≠ t' →
    Disjoint ((cfg0.win 12).blk t).view.set ((cfg0.win 12).blk t').view.set := fun t t' h h' hne => by
  have := (flush0_12 t).1 h
  have := (flush0_12 t').1 h'
  have : t.val < 32 := lt_of_lt_of_eq t.isLt N_0
  have : t'.val < 32 := lt_of_lt_of_eq t'.isLt N_0
  exact absurd (Fin.ext (by omega)) hne

theorem disjoint13 : ∀ t t' : Fin cfg0.N, (cfg0.win 13).flush t = true → (cfg0.win 13).flush t' = true → t ≠ t' →
    Disjoint ((cfg0.win 13).blk t).view.set ((cfg0.win 13).blk t').view.set := fun t t' h h' hne => by
  have := (flush0_13 t).1 h
  have := (flush0_13 t').1 h'
  have : t.val < 32 := lt_of_lt_of_eq t.isLt N_0
  have : t'.val < 32 := lt_of_lt_of_eq t'.isLt N_0
  exact absurd (Fin.ext (by omega)) hne

theorem idx0_12 : ∀ (t : Fin grid0.N) (a : Fin 2), win0_12.index t a = 0 := by decide +kernel
theorem idx0_13 : ∀ (t : Fin grid0.N) (a : Fin 2), win0_13.index t a = 0 := by decide +kernel

/-- The last block. -/
def lastOf : Fin cfg0.N := ⟨31, lt_of_lt_of_eq (by decide) N_0.symm⟩

theorem table12 (b : Fin 8) (d : Fin 9) : (W2 m ρ c (Proc.devRef .tc main_v14_0) : Vec Ideal S8x9 .f32) (ix2 b d)
    = (outsAt0 (V1 m ρ) c 31 lastOf.isLt).1 (ix2 b d) := by
  refine (congrFun (W2_arr m ρ c 12) _).trans ?_
  have h := congrFun ((dat0 (V1 m ρ) c).read_blk_arrAt_eq_flushed 12 disjoint12 cfg0.N lastOf lastOf.isLt ((flush0_12 _).2 rfl)) (ix2 b d)
  have he : ((cfg0.win 12).blk lastOf).view.emb (ix2 b d) = ix2 b d :=
    funext fun a => Fin.ext (Pipeline.Window.rect_emb_val_of_index_zero win0_12 lastOf a (idx0_12 lastOf a) (ix2 b d))
  rw [View.read_apply, he] at h
  refine h.trans ?_
  show ((dat0 (V1 m ρ) c).after 12 lastOf) (ix2 b d) = _
  rw [after0_12]
  rfl

theorem table13 (b : Fin 8) : (W2 m ρ c (Proc.devRef .tc main_v14_1) : Vec Ideal S8x1 .f32) (ix2 b 0)
    = (outsAt0 (V1 m ρ) c 31 lastOf.isLt).2 (ix2 b 0) := by
  refine (congrFun (W2_arr m ρ c 13) _).trans ?_
  have h := congrFun ((dat0 (V1 m ρ) c).read_blk_arrAt_eq_flushed 13 disjoint13 cfg0.N lastOf lastOf.isLt ((flush0_13 _).2 rfl)) (ix2 b 0)
  have he : ((cfg0.win 13).blk lastOf).view.emb (ix2 b 0) = ix2 b 0 :=
    funext fun a => Fin.ext (Pipeline.Window.rect_emb_val_of_index_zero win0_13 lastOf a (idx0_13 lastOf a) (ix2 b 0))
  rw [View.read_apply, he] at h
  refine h.trans ?_
  show ((dat0 (V1 m ρ) c).after 13 lastOf) (ix2 b 0) = _
  rw [after0_13]
  rfl

/-! ## The second call's blocks -/

theorem idx1_0 : ∀ t : Fin grid1.N, win1_0.index t 0 = t.val ∧ win1_0.index t 1 = 0 := by decide +kernel

theorem iblk1_0_at (t : Fin cfg1.N) (i : Fin 256) (d : Fin 3) (n : Fin 8192) (hn : n.val = 256 * t.val + i.val) :
    (iblk1 (V3 m ρ) c 0 t : Vec Ideal S256x3 .f32) (ix2 i d) = m ((c.tc : Thread nD τ).loc main_arg0) (ix2 n d) := by
  show V3 m ρ c main_arg0 (((cfg1.win 0).blk t).view.emb (ix2 i d)) = _
  refine (congrFun (W3_args m ρ c main_arg0 (by decide)) _).trans ?_
  refine congrArg (m ((c.tc : Thread nD τ).loc main_arg0)) (funext fun a => Fin.ext ?_)
  refine (Pipeline.Window.rect_emb_val win1_0 t (ix2 i d) a).trans ?_
  fin_cases a
  · show win1_0.index t 0 * 256 + i.val = n.val
    rw [(idx1_0 t).1]; omega
  · show win1_0.index t 1 * 3 + d.val = d.val
    rw [(idx1_0 t).2]; omega

theorem idx1_1 : ∀ t : Fin grid1.N, win1_1.index t 0 = t.val ∧ win1_1.index t 1 = 0 := by decide +kernel

theorem W3_v1 : W3 m ρ c (Proc.devRef .tc main_v1) = W1 m ρ c (Proc.devRef .tc main_v1) :=
  (W3_of m ρ c main_v1 (by decide)).trans (W2_of m ρ c main_v1 (by decide))

theorem iblk1_1_at (t : Fin cfg1.N) (i : Fin 256) (n : Fin 8192) (hn : n.val = 256 * t.val + i.val) :
    (iblk1 (V3 m ρ) c 1 t : Vec Ideal S256x1 .i32) (ix2 i 0) = m ((c.tc : Thread nD τ).loc main_arg1) (ix1 n) := by
  show V3 m ρ c main_v1 (((cfg1.win 1).blk t).view.emb (ix2 i 0)) = _
  refine (congrFun ((W3_v1 m ρ c).trans (v1_eq m ρ c)) _).trans (Eq.trans ?_ (column_at _ n))
  refine congrArg (shapeCast S8192x1 (m ((c.tc : Thread nD τ).loc main_arg1)) shapeCasts_S8192_S8192x1) (funext fun a => Fin.ext ?_)
  refine (Pipeline.Window.rect_emb_val win1_1 t (ix2 i 0) a).trans ?_
  fin_cases a
  · show win1_1.index t 0 * 256 + i.val = n.val
    rw [(idx1_1 t).1]; omega
  · show win1_1.index t 1 * 1 + 0 = 0
    rw [(idx1_1 t).2]

theorem idx1_2 : ∀ (t : Fin grid1.N) (a : Fin 2), win1_2.index t a = 0 := by decide +kernel
theorem iblk1_2_eq (t : Fin cfg1.N) : (iblk1 (V3 m ρ) c 2 t : Vec Ideal S3x24 .f32) = W3 m ρ c (Proc.devRef .tc main_v17) :=
  funext fun i => congrArg (W3 m ρ c (Proc.devRef .tc main_v17)) (funext fun a => Fin.ext (Pipeline.Window.rect_emb_val_of_index_zero win1_2 t a (idx1_2 t a) i))
theorem idx1_3 : ∀ (t : Fin grid1.N) (a : Fin 2), win1_3.index t a = 0 := by decide +kernel
theorem iblk1_3_eq (t : Fin cfg1.N) : (iblk1 (V3 m ρ) c 3 t : Vec Ideal S1x8 .f32) = W3 m ρ c (Proc.devRef .tc main_v18) :=
  funext fun i => congrArg (W3 m ρ c (Proc.devRef .tc main_v18)) (funext fun a => Fin.ext (Pipeline.Window.rect_emb_val_of_index_zero win1_3 t a (idx1_3 t a) i))

/-! ## The second call's array -/

theorem idx_inj4 : ∀ t t' : Fin grid1.N, win1_4.index t = win1_4.index t' → t = t' := by decide +kernel
theorem disjoint4 : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h => hne (idx_inj4 t t' h)
theorem idx1_4 : ∀ t : Fin grid1.N, win1_4.index t 0 = t.val ∧ win1_4.index t 1 = 0 := by decide +kernel

theorem out1_4_eq (x0 : Vec Ideal S256x3 .f32) (x1 : Vec Ideal S256x1 .i32) (x2 : Vec Ideal S3x24 .f32) (x3 : Vec Ideal S1x8 .f32) :
    out1_4 x0 x1 x2 x3 = k1_pay1 (F := Ideal) x0 x2 x1 x3 := by
  unfold out1_4
  rw [View.canon_cons_unit_lit _ _ _ (by decide), View.ld_unit_lit, View.ld_unit_lit, View.ld_unit_lit, View.ld_unit_lit] <;> decide

/-- Row `256 t + i` of the result is row `i` of what block `t` writes. -/
theorem array4 (t : Fin cfg1.N) (i : Fin 256) (d : Fin 3) (n : Fin 8192) (hn : n.val = 256 * t.val + i.val) :
    (W4 m ρ c (Proc.devRef .tc main_v19) : Vec Ideal S8192x3 .f32) (ix2 n d)
      = k1_pay1 (F := Ideal) (iblk1 (V3 m ρ) c 0 t) (iblk1 (V3 m ρ) c 2 t) (iblk1 (V3 m ρ) c 1 t) (iblk1 (V3 m ρ) c 3 t) (ix2 i d) := by
  refine (congrFun (W4_arr m ρ c 4) _).trans ?_
  have h := congrFun ((dat1 (V3 m ρ) c).read_blk_arrAt_eq_flushed 4 disjoint4 cfg1.N t t.isLt (flush1_4 t)) (ix2 i d)
  have he : ((cfg1.win 4).blk t).view.emb (ix2 i d) = ix2 n d := funext fun a => Fin.ext (by
    refine (Pipeline.Window.rect_emb_val win1_4 t (ix2 i d) a).trans ?_
    fin_cases a
    · show win1_4.index t 0 * 256 + i.val = n.val
      rw [(idx1_4 t).1]; omega
    · show win1_4.index t 1 * 3 + d.val = d.val
      rw [(idx1_4 t).2]; omega)
  rw [View.read_apply, he] at h
  refine h.trans ?_
  show ((dat1 (V3 m ρ) c).after 4 t) (ix2 i d) = _
  rw [after1_4, out1_4_eq]

/-! ## One cloud survives -/

theorem inv_ne_top (x : EReal) : x⁻¹ ≠ ⊤ := by
  induction x with
  | bot => simp
  | top => simp
  | coe r => rw [← EReal.coe_inv]; exact EReal.coe_ne_top _

/-- A number of points, taken at least one, divides as its inverse multiplies. -/
theorem div_max (x y : EReal) : Ideal.div x (max y 1) = x * (max y 1)⁻¹ :=
  if_neg (ne_of_gt (lt_of_lt_of_le zero_lt_one (le_max_right y 1)))

/-- The closing product is the point times its own cloud's mean matrix. -/
theorem weighed_eq (p : Fin 3 → EReal) (T : BitVec 32 → Fin 9 → EReal) (n : BitVec 32 → EReal) (o : BitVec 32) (ho : o.toNat < 8) (c : Fin 3) :
    weighed (fun q => ∑ d : Fin 3, p d * T (BitVec.ofNat 32 (q.val % 8)) ⟨3 * d.val + q.val / 8, by omega⟩) o (fun b => n (BitVec.ofNat 32 b.val)) c.val c.isLt
      = ∑ d : Fin 3, p d * Ideal.div (T o ⟨3 * d.val + c.val, by omega⟩) (max (n o) 1) := by
  have hof : BitVec.ofNat 32 o.toNat = o := by rw [BitVec.ofNat_toNat, BitVec.setWidth_eq]
  unfold weighed
  rw [sum_eq_single (⟨o.toNat, ho⟩ : Fin 8)]
  · have h8 : (8 * c.val + o.toNat) % 8 = o.toNat := by omega
    have h3 : ∀ d : Fin 3, (⟨3 * d.val + (8 * c.val + o.toNat) / 8, by omega⟩ : Fin 9) = ⟨3 * d.val + c.val, by omega⟩ := fun d =>
      Fin.ext (by show 3 * d.val + (8 * c.val + o.toNat) / 8 = 3 * d.val + c.val; omega)
    simp only [h8, h3, hof, if_true]
    have hm : 0 ≤ (max (n o) 1)⁻¹ := EReal.inv_nonneg_of_nonneg (le_trans zero_le_one (le_max_right _ _))
    have ht := inv_ne_top (max (n o) 1)
    simp only [div_max]
    rw [one_mul, Fin.sum_univ_three, Fin.sum_univ_three, EReal.right_distrib_of_nonneg_of_ne_top hm ht, EReal.right_distrib_of_nonneg_of_ne_top hm ht,
      mul_assoc, mul_assoc, mul_assoc]
  · intro b _ hb
    have hne : ¬ o = BitVec.ofNat 32 b.val := fun h => hb (Fin.ext (by
      have := congrArg BitVec.toNat h
      rw [BitVec.toNat_ofNat, Nat.mod_eq_of_lt (by omega)] at this
      exact this.symm))
    rw [if_neg hne]
    rw [div_max, zero_mul, mul_zero]
  · exact fun h => absurd (mem_univ _) h

/-- The kernel's result is the specification's. -/
theorem kernel_at (ν : Fin 8192 → Fin 16 → Fin 8192) (hν : Near (P m c) (β m c) ν) (hfar : ∀ i k, far (P m c) i k < big)
    (hs : ∀ i k : Fin 8192, i ≤ k → (β m c i).toInt ≤ (β m c k).toInt) (hb : ∀ i, (β m c i).toNat < 8) (n : Fin 8192) (d : Fin 3) :
    (W4 m ρ c (Proc.devRef .tc main_v19) : Vec Ideal S8192x3 .f32) (ix2 n d)
      = result (P m c) (β m c) ν (M1 m c) (c1 m c) (M2 m c) (c2 m c) (M3 m c) (c3 m c) n d := by
  have hn := n.isLt
  have hdiv : n.val = 256 * (n.val / 256) + n.val % 256 := by omega
  refine (array4 m ρ c ⟨n.val / 256, lt_of_lt_of_eq (by omega) N_1.symm⟩ ⟨n.val % 256, by omega⟩ d n hdiv).trans ?_
  refine (closing_at _ _ _ _ _ _).trans ?_
  rw [iblk1_1_at m ρ c _ _ n hdiv, iblk1_2_eq, iblk1_3_eq, v17_eq, v18_eq]
  refine Eq.trans ?_ (weighed_eq (P m c n) (total (P m c) (β m c) ν (M1 m c) (c1 m c) (M2 m c) (c2 m c) (M3 m c) (c3 m c)) (members (β m c)) (β m c n) (hb n) d)
  congr 1
  · funext q
    refine sum_congr rfl fun e _ => ?_
    rw [iblk1_0_at m ρ c _ _ e n hdiv, spread_at]
    exact congrArg (P m c n e * ·) ((table12 m ρ c _ _).trans (outs_last m ρ c ν hν hfar hs _ _ 31 lastOf.isLt rfl).1)
  · funext b
    exact (counts_row_at _ b).trans ((table13 m ρ c b).trans (outs_last m ρ c ν hν hfar hs b 0 31 lastOf.isLt rfl).2)

end Cert.KernelIdeal.Knn

end
-- ==== Proof.RefFrame.lean ====
/- The reference runs to its end, leaves its arguments as they were and has no semaphore to leave raised. -/
module

public import proofs.«01_k».proof.Proof.Gen.ReferenceIdeal.Run

@[expose] public section

noncomputable section

namespace Cert.ReferenceIdeal.Knn

open Cert.ReferenceIdeal Cert.ReferenceIdeal.Gen Idealize.ShloMosaic Idealize.ShloMosaic.TcCoe Idealize.SL.Sem

variable {F : FTy → Type} [FloatOps F]

/-- A host program of this signature has no semaphore, so any two readings of the counters agree. -/
theorem counters_zero (s : GSem nD τ sig → Int) : s = fun _ => 0 := by
  funext g
  obtain ⟨_, l⟩ := g
  cases l with
  | reg s => exact s.elim0
  | dma s => exact s.elim0

/-- The reference runs to its end, leaves its arguments as they were, and every semaphore at zero. -/
theorem ends (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => (h c).2, counters_zero _⟩) (Value.run m ρ)

end Cert.ReferenceIdeal.Knn

end
-- ==== Proof.RefTake.lean ====
/- The reference's gathers and scatters read at an index. -/
module

public import proofs.«01_k».proof.Proof.Gen.ReferenceIdeal
public import Idealize.ShloMosaic.Lib.Pointwise
public import Idealize.ShloMosaic.Lib.Routing.OpsPair

@[expose] public section

set_option maxRecDepth 16384

noncomputable section

namespace Cert.ReferenceIdeal.Knn

open Cert.ReferenceIdeal Cert.ReferenceIdeal.Gen Idealize.ShloMosaic

/-- A row of points by its number. -/
theorem take_points (x : FVec Ideal S8192x3 .f32) (idx : IVec S8192x16x1 32) (n : Fin 8192) (k : Fin 16) (c : Fin 3) :
    Host.gather gather_S8192x3_S8192x16x1_S8192x16x3_2_0_n_n_0_2_13 x idx (ix3 n k c)
      = x (ix2 ⟨min (idx (ix3 n k 0)).toInt.toNat 8191, by omega⟩ c) := by
  unfold Host.gather
  congr 1
  funext a
  refine Fin.ext ?_
  fin_cases a
  · show gather_S8192x3_S8192x16x1_S8192x16x3_2_0_n_n_0_2_13.start (ix3 n k c) idx (0 : Fin 2) + gather_S8192x3_S8192x16x1_S8192x16x3_2_0_n_n_0_2_13.batchCoord (ix3 n k c) (0 : Fin 2) + gather_S8192x3_S8192x16x1_S8192x16x3_2_0_n_n_0_2_13.offCoord (ix3 n k c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x3_S8192x16x1_S8192x16x3_2_0_n_n_0_2_13.startIndexMap from List.mem_singleton.mpr rfl)]
    have hsi : gather_S8192x3_S8192x16x1_S8192x16x3_2_0_n_n_0_2_13.siIdx (ix3 n k c)
        ⟨List.idxOf (0 : Fin 2) gather_S8192x3_S8192x16x1_S8192x16x3_2_0_n_n_0_2_13.startIndexMap, List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    exact congrArg (fun t => min (idx t).toInt.toNat 8191) hsi
  · show gather_S8192x3_S8192x16x1_S8192x16x3_2_0_n_n_0_2_13.start (ix3 n k c) idx (1 : Fin 2) + gather_S8192x3_S8192x16x1_S8192x16x3_2_0_n_n_0_2_13.batchCoord (ix3 n k c) (1 : Fin 2) + gather_S8192x3_S8192x16x1_S8192x16x3_2_0_n_n_0_2_13.offCoord (ix3 n k c) (1 : Fin 2) = _
    have h1 : gather_S8192x3_S8192x16x1_S8192x16x3_2_0_n_n_0_2_13.start (ix3 n k c) idx (1 : Fin 2) = 0 := by
      unfold GatherDims.start
      rw [dif_neg (show ¬ (1 : Fin 2) ∈ gather_S8192x3_S8192x16x1_S8192x16x3_2_0_n_n_0_2_13.startIndexMap from fun h => absurd (List.mem_singleton.1 h) (by decide))]
    have h2 : gather_S8192x3_S8192x16x1_S8192x16x3_2_0_n_n_0_2_13.offCoord (ix3 n k c) (1 : Fin 2) = c.val := rfl
    rw [h1, h2, GatherDims.batchCoord_eq_zero _ _ _ List.not_mem_nil, Nat.add_zero, Nat.zero_add]
    rfl

/-- A row of the table of means by its number. -/
theorem take_means (x : FVec Ideal S8x9 .f32) (idx : IVec S8192x1 32) (n : Fin 8192) (c : Fin 9) :
    Host.gather gather_S8x9_S8192x1_S8192x9_1_0_n_n_0_1_19 x idx (ix2 n c)
      = x (ix2 ⟨min (idx (ix2 n 0)).toInt.toNat 7, by omega⟩ c) := by
  unfold Host.gather
  congr 1
  funext a
  refine Fin.ext ?_
  fin_cases a
  · show gather_S8x9_S8192x1_S8192x9_1_0_n_n_0_1_19.start (ix2 n c) idx (0 : Fin 2) + gather_S8x9_S8192x1_S8192x9_1_0_n_n_0_1_19.batchCoord (ix2 n c) (0 : Fin 2) + gather_S8x9_S8192x1_S8192x9_1_0_n_n_0_1_19.offCoord (ix2 n c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8x9_S8192x1_S8192x9_1_0_n_n_0_1_19.startIndexMap from List.mem_singleton.mpr rfl)]
    have hsi : gather_S8x9_S8192x1_S8192x9_1_0_n_n_0_1_19.siIdx (ix2 n c)
        ⟨List.idxOf (0 : Fin 2) gather_S8x9_S8192x1_S8192x9_1_0_n_n_0_1_19.startIndexMap, List.idxOf_lt_length_iff.2 (List.mem_singleton.mpr rfl)⟩ = ix2 n 0 := by
      funext b; refine Fin.ext ?_
      match b with
      | ⟨0, _⟩ => rfl
      | ⟨1, _⟩ => rfl
    exact congrArg (fun t => min (idx t).toInt.toNat 7) hsi
  · show gather_S8x9_S8192x1_S8192x9_1_0_n_n_0_1_19.start (ix2 n c) idx (1 : Fin 2) + gather_S8x9_S8192x1_S8192x9_1_0_n_n_0_1_19.batchCoord (ix2 n c) (1 : Fin 2) + gather_S8x9_S8192x1_S8192x9_1_0_n_n_0_1_19.offCoord (ix2 n c) (1 : Fin 2) = _
    have h1 : gather_S8x9_S8192x1_S8192x9_1_0_n_n_0_1_19.start (ix2 n c) idx (1 : Fin 2) = 0 := by
      unfold GatherDims.start
      rw [dif_neg (show ¬ (1 : Fin 2) ∈ gather_S8x9_S8192x1_S8192x9_1_0_n_n_0_1_19.startIndexMap from fun h => absurd (List.mem_singleton.1 h) (by decide))]
    have h2 : gather_S8x9_S8192x1_S8192x9_1_0_n_n_0_1_19.offCoord (ix2 n c) (1 : Fin 2) = c.val := rfl
    rw [h1, h2, GatherDims.batchCoord_eq_zero _ _ _ List.not_mem_nil, Nat.add_zero, Nat.zero_add]
    rfl

/-- Where a point's row of nine is added up: the row of its cloud. -/
theorem row_lands (idx : IVec S8192x1 32) (n : Fin 8192) (c d : Fin 9) (b : Fin 8) :
    scatter_S8x9_S8192x1_S8192x9_1_0_0_1.resultIdx? (ix2 n c) idx = some (ix2 b d)
      ↔ (idx (ix2 n 0)).toInt = b.val ∧ c = d := by
  have h0 : scatter_S8x9_S8192x1_S8192x9_1_0_0_1.start (ix2 n c) idx 0 = (idx (ix2 n 0)).toInt := by
    unfold ScatterDims.start
    rw [dif_pos (show (0 : Fin 2) ∈ scatter_S8x9_S8192x1_S8192x9_1_0_0_1.scatterDimsToOperandDims from List.mem_singleton.mpr rfl)]
    refine congrArg (fun t => (idx t).toInt) ?_
    funext b; refine Fin.ext ?_
    match b with
    | ⟨0, _⟩ => rfl
    | ⟨1, _⟩ => rfl
  have h1 : scatter_S8x9_S8192x1_S8192x9_1_0_0_1.start (ix2 n c) idx 1 = 0 := rfl
  have w0 : scatter_S8x9_S8192x1_S8192x9_1_0_0_1.window (ix2 n c) 0 = 0 := rfl
  have w1 : scatter_S8x9_S8192x1_S8192x9_1_0_0_1.window (ix2 n c) 1 = c.val := rfl
  rw [Routing.resultIdx?_eq_some]
  constructor
  · intro h
    have e0 := h 0
    have e1 := h 1
    rw [h0, w0] at e0
    rw [h1, w1] at e1
    refine ⟨by simpa using e0, Fin.ext ?_⟩
    have : ((ix2 b d : S8x9.Idx) 1).val = d.val := rfl
    rw [this] at e1
    omega
  · rintro ⟨h, rfl⟩ a
    fin_cases a
    · exact (congrArg₂ (fun (u : Int) (v : Nat) => u + (v : Int)) h0 w0).trans ((Int.add_zero _).trans h)
    · exact (congrArg₂ (fun (u : Int) (v : Nat) => u + (v : Int)) h1 w1).trans (Int.zero_add _)

/-- Where a point is counted: at its cloud. -/
theorem one_lands (idx : IVec S8192x1 32) (n : Fin 8192) (b : Fin 8) :
    scatter_S8_S8192x1_S8192_n_0_0_1.resultIdx? (ix1 n) idx = some (ix1 b)
      ↔ (idx (ix2 n 0)).toInt = b.val := by
  have h0 : scatter_S8_S8192x1_S8192_n_0_0_1.start (ix1 n) idx 0 = (idx (ix2 n 0)).toInt := by
    unfold ScatterDims.start
    rw [dif_pos (show (0 : Fin 1) ∈ scatter_S8_S8192x1_S8192_n_0_0_1.scatterDimsToOperandDims from List.mem_singleton.mpr rfl)]
    refine congrArg (fun t => (idx t).toInt) ?_
    funext b; refine Fin.ext ?_
    match b with
    | ⟨0, _⟩ => rfl
    | ⟨1, _⟩ => rfl
  have w0 : scatter_S8_S8192x1_S8192_n_0_0_1.window (ix1 n) 0 = 0 := rfl
  rw [Routing.resultIdx?_eq_some]
  constructor
  · intro h
    have e0 := h 0
    rw [h0, w0] at e0
    simpa using e0
  · intro h a
    fin_cases a
    exact (congrArg₂ (fun (u : Int) (v : Nat) => u + (v : Int)) h0 w0).trans ((Int.add_zero _).trans h)

end Cert.ReferenceIdeal.Knn

end
-- ==== Proof.Top.lean ====
/- The reference's selection: its `k`-th index is the number of rank `k` by value and then by number. -/
module

public import proofs.«01_k».proof.Proof.Gen.ReferenceIdeal
public import proofs.«01_k».proof.Proof.Rank
public import Idealize.ShloMosaic.Lib.SortFacts
public import Idealize.ShloMosaic.Lib.Pointwise

@[expose] public section

set_option maxRecDepth 16384

noncomputable section

namespace Cert.Knn

open Idealize.ShloMosaic Finset

/-- By value alone or by value and number: an ascending list is sorted alike. -/
theorem stable_by_number (D : ℕ → EReal) {N : ℕ} (l : List (Fin N)) (hl : l.Pairwise (· < ·)) :
    stableSort (fun a b : Fin N => decide (D a < D b)) l = stableSort (fun a b : Fin N => decide (key D a < key D b)) l := by
  induction l with
  | nil => rfl
  | cons a l ih =>
    rw [List.pairwise_cons] at hl
    unfold stableSort
    rw [ih hl.2]
    refine insertBefore_congr _ _ a _ fun b hb => ?_
    have hb' : a < b := hl.1 b ((perm_stableSort _ l).mem_iff.mp hb)
    refine decide_eq_decide.2 ?_
    rw [key_lt]
    refine ⟨.inl, fun h => h.resolve_right fun h' => ?_⟩
    have := h'.2
    have := Fin.lt_def.1 hb'
    omega

/-- The sort by value puts the number of rank `k` at position `k`. -/
theorem rank_sorted (D : ℕ → EReal) {N : ℕ} (k : Fin N) :
    rank (key D) (range N) (sortedFrom (fun a b : Fin N => decide (D a < D b)) k).val = k.val := by
  have he : (sortedFrom fun a b : Fin N => decide (D a < D b)) = sortedFrom fun a b : Fin N => decide (key D a < key D b) := by
    funext k
    unfold sortedFrom
    have : sortPositions N (fun a b : Fin N => decide (D a < D b)) = sortPositions N fun a b : Fin N => decide (key D a < key D b) :=
      stable_by_number D _ (List.pairwise_lt_finRange N)
    rw [List.get_of_eq this]
    rfl
  rw [he]
  set L : Fin N → Fin N → Bool := fun a b => decide (key D a < key D b) with hL
  have hinj := sortedFrom_injective L
  have hmono : ∀ i j : Fin N, i < j → key D (sortedFrom L i) < key D (sortedFrom L j) := fun i j hij => by
    have h := sortedFrom_noInversion L L (fun a b h => by
        rw [hL] at h ⊢; simp only [decide_eq_true_eq, decide_eq_false_iff_not] at h ⊢; exact not_lt.2 h.le)
      (fun _ _ h => h) (fun a b c h1 h2 => by
        rw [hL] at h1 h2 ⊢; simp only [decide_eq_false_iff_not, not_lt] at h1 h2 ⊢; exact h2.trans h1) i j hij
    rw [hL] at h
    simp only [decide_eq_false_iff_not, not_lt] at h
    refine lt_of_le_of_ne h fun h' => ?_
    exact absurd (hinj (Fin.ext (key_inj D h'))) hij.ne
  unfold rank
  have : (range N).filter (fun i => key D i < key D (sortedFrom L k).val)
      = (univ.filter fun i : Fin N => i < k).image fun i => (sortedFrom L i).val := by
    ext x
    simp only [mem_filter, mem_range, mem_image, mem_univ, true_and]
    constructor
    · rintro ⟨hx, hlt⟩
      obtain ⟨i, hi⟩ := sortedFrom_surjective L ⟨x, hx⟩
      have hv : (sortedFrom L i).val = x := congrArg Fin.val hi
      refine ⟨i, ?_, hv⟩
      by_contra hn
      rcases (not_lt.1 hn).lt_or_eq with h | h
      · exact absurd (hmono k i h) (by rw [hv]; exact not_lt.2 hlt.le)
      · subst h; rw [hv] at hlt; exact lt_irrefl _ hlt
    · rintro ⟨i, hi, rfl⟩
      exact ⟨(sortedFrom L i).isLt, hmono i k hi⟩
  rw [this, card_image_of_injective _ fun i j h => hinj (Fin.ext h)]
  have : (univ.filter fun i : Fin N => i < k) = Iio k := by ext; simp
  rw [this, Fin.card_Iio]

end Cert.Knn

namespace Cert.ReferenceIdeal.Knn

open Cert.ReferenceIdeal Cert.ReferenceIdeal.Gen Idealize.ShloMosaic Cert.Knn

/-- The index the reference finds at `k`. -/
theorem top_at (x : FVec Ideal S8192x8192 .f32) (E : ℕ → EReal) (n : Fin 8192) (hx : ∀ j : Fin 8192, x (ix2 n j) = -(E j.val)) (k : Fin 16) :
    ∃ j : Fin 8192, rank (key E) (Finset.range 8192) j.val = k.val
      ∧ (Host.topK S8192x16 1 (FloatOps.cmpfTotal (F := Ideal) (φ := .f32) .gt) x sliceFits_S8192x8192_S8192x16).2 (ix2 n k)
        = BitVec.ofNat 32 j.val := by
  let k' : Fin 8192 := ⟨k.val, by omega⟩
  have hslot : ∀ j : Fin 8192, (ix2 n k' : S8192x8192.Idx).along (1 : Fin 2) j = ix2 n j := fun j => by
    funext a
    fin_cases a
    · rfl
    · rfl
  have hcmp : ∀ a b : Fin 8192, (FloatOps.cmpfTotal (F := Ideal) (φ := .f32) .gt (x (ix2 n a)) (x (ix2 n b)) == 1#1)
      = decide (E a.val < E b.val) := fun a b => by
    rw [hx, hx]
    show (BitVec.ofBool (decide (-(E b.val) < -(E a.val))) == 1#1) = _
    simp only [EReal.neg_lt_neg_iff]
    by_cases h : E a.val < E b.val <;> simp [h]
  refine ⟨sortedFrom (fun a b : Fin 8192 => decide (E a.val < E b.val)) k', rank_sorted E k', ?_⟩
  have hsort : (sortedFrom fun a b : Fin 8192 => (FloatOps.cmpfTotal (F := Ideal) (φ := .f32) .gt (x (ix2 n a)) (x (ix2 n b)) == 1#1))
      = sortedFrom fun a b : Fin 8192 => decide (E a.val < E b.val) := congrArg sortedFrom (funext fun a => funext fun b => hcmp a b)
  have hout : (fun a : Fin 2 => (⟨(0 : ℕ) + (ix2 n k : S8192x16.Idx) a, by fin_cases a <;> simp [ix2] <;> omega⟩ : Fin (S8192x8192.size a)))
      = (ix2 n k' : S8192x8192.Idx) := by
    funext a
    fin_cases a
    · exact Fin.ext (Nat.zero_add _)
    · exact Fin.ext (Nat.zero_add _)
  have hread : ∀ J : S8192x8192.Idx, J = ix2 n k' →
      iotaInDim S8192x8192 32 (1 : Fin 2) (J.along (1 : Fin 2) (sortedFrom (n := 8192) (fun a b : Fin 8192 =>
        (FloatOps.cmpfTotal (F := Ideal) (φ := .f32) .gt (x (J.along (1 : Fin 2) a)) (x (J.along (1 : Fin 2) b)) == 1#1)) (J 1)))
      = BitVec.ofNat 32 (sortedFrom (n := 8192) (fun a b : Fin 8192 =>
        (FloatOps.cmpfTotal (F := Ideal) (φ := .f32) .gt (x (ix2 n a)) (x (ix2 n b)) == 1#1)) k').val := by
    rintro _ rfl
    have hf : (fun a b : Fin 8192 => (FloatOps.cmpfTotal (F := Ideal) (φ := .f32) .gt
          (x ((ix2 n k' : S8192x8192.Idx).along (1 : Fin 2) a)) (x ((ix2 n k' : S8192x8192.Idx).along (1 : Fin 2) b)) == 1#1))
        = fun a b : Fin 8192 => (FloatOps.cmpfTotal (F := Ideal) (φ := .f32) .gt (x (ix2 n a)) (x (ix2 n b)) == 1#1) := by
      funext a b
      rw [hslot, hslot]
    rw [hf]
    generalize sortedFrom (n := 8192) (fun a b : Fin 8192 =>
      (FloatOps.cmpfTotal (F := Ideal) (φ := .f32) .gt (x (ix2 n a)) (x (ix2 n b)) == 1#1)) = f
    have e : iotaInDim S8192x8192 32 (1 : Fin 2) ((ix2 n k' : S8192x8192.Idx).along (1 : Fin 2) (f k')) = BitVec.ofNat 32 (f k').val := by
      rw [hslot]
      generalize f k' = j
      unfold iotaInDim
      rfl
    exact e
  rw [← hsort]
  exact hread _ hout

end Cert.ReferenceIdeal.Knn

end
-- ==== Proof.RefStages.lean ====
/- The reference's stages, named, and its result as their composition. -/
module

public import proofs.«01_k».proof.Proof.RefTake
public import proofs.«01_k».proof.Proof.Top
public import proofs.«01_k».proof.Proof.Spec
public import proofs.«01_k».proof.Proof.Gen.ReferenceIdeal.Run
public import Idealize.ShloMosaic.Lib.IdealHost

@[expose] public section

set_option maxRecDepth 16384

noncomputable section

namespace Cert.ReferenceIdeal.Knn

open Cert.ReferenceIdeal Cert.ReferenceIdeal.Gen Idealize.ShloMosaic Cert.Knn

def offsets (pos : FVec Ideal S8192x3 .f32) : FVec Ideal S8192x8192x3 .f32 :=
  subf (broadcastInDim S8192x8192x3 ![0, 1, 2] bcast_S8192x1x3_S8192x8192x3_0_1_2 (broadcastInDim S8192x1x3 ![0, 2] bcast_S8192x3_S8192x1x3_0_2 pos)) (broadcastInDim S8192x8192x3 ![0, 1, 2] bcast_S1x8192x3_S8192x8192x3_0_1_2 (broadcastInDim S1x8192x3 ![1, 2] bcast_S8192x3_S1x8192x3_1_2 pos))

def squares (pos : FVec Ideal S8192x3 .f32) : FVec Ideal S8192x8192 .f32 :=
  Host.reduceAdd (mulf (offsets pos) (offsets pos)) (constant S_ .f32 0x00000000#32) reducesTo_S8192x8192x3_S8192x8192_d2 h_S_

def masked (pos : FVec Ideal S8192x3 .f32) (batch : IVec S8192 32) : FVec Ideal S8192x8192 .f32 :=
  Host.negf (select (cmpi .ne (broadcastInDim S8192x8192 ![0, 1] bcast_S8192x1_S8192x8192_0_1 (broadcastInDim S8192x1 ![0] bcast_S8192_S8192x1_0 batch)) (broadcastInDim S8192x8192 ![0, 1] bcast_S1x8192_S8192x8192_0_1 (broadcastInDim S1x8192 ![1] bcast_S8192_S1x8192_1 batch))) (broadcastInDim S8192x8192 ![] bcast_S_S8192x8192 (id (constant S_ .f32 0x7F800000#32))) (squares pos))

def ids (pos : FVec Ideal S8192x3 .f32) (batch : IVec S8192 32) : IVec S8192x16 32 :=
  (Host.topK S8192x16 1 (FloatOps.cmpfTotal (F := Ideal) (φ := .f32) .gt) (masked pos batch) sliceFits_S8192x8192_S8192x16).2

def wrapped (i : IVec S8192x16 32) : IVec S8192x16x1 32 :=
  broadcastInDim S8192x16x1 ![0, 1] bcast_S8192x16_S8192x16x1_0_1 (select (cmpi .slt i (broadcastInDim S8192x16 ![] bcast_S_S8192x16 (constantI S_ 32 0#32))) (addi i (broadcastInDim S8192x16 ![] bcast_S_S8192x16 (constantI S_ 32 8192#32))) i)

def sixes (pos : FVec Ideal S8192x3 .f32) (nb : FVec Ideal S8192x16x3 .f32) : FVec Ideal S8192x16x6 .f32 :=
  concatenate S8192x16x6 2 [⟨S8192x16x3, (broadcastInDim S8192x16x3 ![0, 1, 2] bcast_S8192x1x3_S8192x16x3_0_1_2 (broadcastInDim S8192x1x3 ![0, 2] bcast_S8192x3_S8192x1x3_0_2 pos))⟩, ⟨S8192x16x3, (subf (broadcastInDim S8192x16x3 ![0, 1, 2] bcast_S8192x1x3_S8192x16x3_0_1_2 (broadcastInDim S8192x1x3 ![0, 2] bcast_S8192x3_S8192x1x3_0_2 pos)) nb)⟩] concatenates_S8192x16x3_S8192x16x3_S8192x16x6_d2

def layer1 (x : FVec Ideal S8192x96 .f32) (w : FVec Ideal S96x1024 .f32) (b : FVec Ideal S1024 .f32) : FVec Ideal S8192x1024 .f32 :=
  maximumf (addf (Host.dotGeneral dot_S8192x96_S96x1024_S8192x1024_1_0_0_1_n_n none x w) (broadcastInDim S8192x1024 ![0, 1] bcast_S1x1024_S8192x1024_0_1 (broadcastInDim S1x1024 ![1] bcast_S1024_S1x1024_1 b))) (broadcastInDim S8192x1024 ![] bcast_S_S8192x1024 (constant S_ .f32 0x00000000#32))

def layer2 (x : FVec Ideal S8192x1024 .f32) (w : FVec Ideal S1024x256 .f32) (b : FVec Ideal S256 .f32) : FVec Ideal S8192x256 .f32 :=
  maximumf (addf (Host.dotGeneral dot_S8192x1024_S1024x256_S8192x256_1_0_0_1_n_n none x w) (broadcastInDim S8192x256 ![0, 1] bcast_S1x256_S8192x256_0_1 (broadcastInDim S1x256 ![1] bcast_S256_S1x256_1 b))) (broadcastInDim S8192x256 ![] bcast_S_S8192x256 (constant S_ .f32 0x00000000#32))

def layer3 (x : FVec Ideal S8192x256 .f32) (w : FVec Ideal S256x9 .f32) (b : FVec Ideal S9 .f32) : FVec Ideal S8192x9 .f32 :=
  addf (Host.dotGeneral dot_S8192x256_S256x9_S8192x9_1_0_0_1_n_n none x w) (broadcastInDim S8192x9 ![0, 1] bcast_S1x9_S8192x9_0_1 (broadcastInDim S1x9 ![1] bcast_S9_S1x9_1 b))

def numbers (batch : IVec S8192 32) : IVec S8192x1 32 := broadcastInDim S8192x1 ![0] bcast_S8192_S8192x1_0 batch

def clouds (batch : IVec S8192 32) : IVec S8192x1 32 :=
  broadcastInDim S8192x1 ![0] bcast_S8192_S8192x1_0 (select (cmpi .slt batch (broadcastInDim S8192 ![] bcast_S_S8192 (constantI S_ 32 0#32))) (addi batch (broadcastInDim S8192 ![] bcast_S_S8192 (constantI S_ 32 8#32))) batch)

def sumsOf (y : FVec Ideal S8192x9 .f32) (batch : IVec S8192 32) : FVec Ideal S8x9 .f32 :=
  Host.scatterAdd scatter_S8x9_S8192x1_S8192x9_1_0_0_1 (broadcastInDim S8x9 ![] bcast_S_S8x9 (constant S_ .f32 0x00000000#32)) (numbers batch) y

def countsOf (batch : IVec S8192 32) : FVec Ideal S8 .f32 :=
  Host.scatterAdd scatter_S8_S8192x1_S8192_n_0_0_1 (broadcastInDim S8 ![] bcast_S_S8 (constant S_ .f32 0x00000000#32)) (numbers batch) (broadcastInDim S8192 ![] bcast_S_S8192 (constant S_ .f32 0x3F800000#32))

def meansOf (s : FVec Ideal S8x9 .f32) (n : FVec Ideal S8 .f32) : FVec Ideal S8x9 .f32 :=
  Host.divf s (broadcastInDim S8x9 ![0, 1] bcast_S8x1_S8x9_0_1 (broadcastInDim S8x1 ![0] bcast_S8_S8x1_0 (maximumf n (broadcastInDim S8 ![] bcast_S_S8 (constant S_ .f32 0x3F800000#32)))))

def applied (pos : FVec Ideal S8192x3 .f32) (g : FVec Ideal S8192x9 .f32) : FVec Ideal S8192x3 .f32 :=
  shapeCast S8192x3 (Host.dotGeneral dot_S8192x1x3_S8192x3x3_S8192x1x3_2_1_1_2_0_0 none (broadcastInDim S8192x1x3 ![0, 2] bcast_S8192x3_S8192x1x3_0_2 pos) (shapeCast S8192x3x3 g shapeCasts_S8192x9_S8192x3x3)) shapeCasts_S8192x1x3_S8192x3

def neighbours (pos : FVec Ideal S8192x3 .f32) (batch : IVec S8192 32) : FVec Ideal S8192x16x3 .f32 :=
  Host.gather gather_S8192x3_S8192x16x1_S8192x16x3_2_0_n_n_0_2_13 pos (wrapped (ids pos batch))

def network (pos : FVec Ideal S8192x3 .f32) (batch : IVec S8192 32) (w1 : FVec Ideal S96x1024 .f32) (b1 : FVec Ideal S1024 .f32)
    (w2 : FVec Ideal S1024x256 .f32) (b2 : FVec Ideal S256 .f32) (w3 : FVec Ideal S256x9 .f32) (b3 : FVec Ideal S9 .f32) : FVec Ideal S8192x9 .f32 :=
  layer3 (layer2 (layer1 (shapeCast S8192x96 (sixes pos (neighbours pos batch)) shapeCasts_S8192x16x6_S8192x96) w1 b1) w2 b2) w3 b3

def whole (pos : FVec Ideal S8192x3 .f32) (batch : IVec S8192 32) (w1 : FVec Ideal S96x1024 .f32) (b1 : FVec Ideal S1024 .f32)
    (w2 : FVec Ideal S1024x256 .f32) (b2 : FVec Ideal S256 .f32) (w3 : FVec Ideal S256x9 .f32) (b3 : FVec Ideal S9 .f32) : FVec Ideal S8192x3 .f32 :=
  applied pos (Host.gather gather_S8x9_S8192x1_S8192x9_1_0_n_n_0_1_19 (meansOf (sumsOf (network pos batch w1 b1 w2 b2 w3 b3) batch) (countsOf batch)) (clouds batch))

theorem res_eq (m : (ℓ : Loc nD τ sig) → Buf (Elt Ideal) ℓ) (c : Dev nD) :
    Cert.ReferenceIdeal.Value.res_main_v62 (F := Ideal) m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

end Cert.ReferenceIdeal.Knn

end
-- ==== Proof.RefRead.lean ====
/- The reference's stages read at an index. -/
module

public import proofs.«01_k».proof.Proof.RefStages

@[expose] public section

set_option maxRecDepth 16384

noncomputable section

namespace Cert.ReferenceIdeal.Knn

open Cert.ReferenceIdeal Cert.ReferenceIdeal.Gen Idealize.ShloMosaic Cert.Knn

theorem infinite : Ideal.ofBits .f32 0x7F800000#32 = ⊤ := by
  simp [Ideal.ofBits, Ideal.ieee]

theorem offsets_at (pos : FVec Ideal S8192x3 .f32) (n j : Fin 8192) (c : Fin 3) :
    offsets pos (ix3 n j c) = pos (ix2 n c) - pos (ix2 j c) := by
  pointwise [offsets]

theorem squares_at (pos : FVec Ideal S8192x3 .f32) (n j : Fin 8192) :
    squares pos (ix2 n j) = far (fun i c => pos (ix2 i c)) n j := by
  pointwise [squares, offsets_at]
  rw [Fin.sum_univ_three]
  rfl

theorem masked_at (pos : FVec Ideal S8192x3 .f32) (batch : IVec S8192 32) (n j : Fin 8192) :
    masked pos batch (ix2 n j) = -(apart (fun i c => pos (ix2 i c)) (fun i => batch (ix1 i)) n j.val) := by
  pointwise [masked, squares_at]
  have hinf : (id (constant (F := Ideal) S_ .f32 0x7F800000#32) ix0 : EReal) = ⊤ := infinite
  refine congrArg Neg.neg ?_
  unfold apart
  rw [dif_pos j.isLt]
  by_cases h : batch (ix1 n) = batch (ix1 j)
  · simp [Scalar.select, IntOp.cmpi, h]
  · simp [Scalar.select, IntOp.cmpi, h, bne_iff_ne.2 h, hinf]

theorem layer1_at (x : FVec Ideal S8192x96 .f32) (w : FVec Ideal S96x1024 .f32) (b : FVec Ideal S1024 .f32) (n : Fin 8192) (h : Fin 1024) :
    layer1 x w b (ix2 n h) = max ((∑ q : Fin 96, x (ix2 n q) * w (ix2 q h)) + b (ix1 h)) 0 := by
  pointwise [layer1]

theorem layer2_at (x : FVec Ideal S8192x1024 .f32) (w : FVec Ideal S1024x256 .f32) (b : FVec Ideal S256 .f32) (n : Fin 8192) (h : Fin 256) :
    layer2 x w b (ix2 n h) = max ((∑ q : Fin 1024, x (ix2 n q) * w (ix2 q h)) + b (ix1 h)) 0 := by
  pointwise [layer2]

theorem layer3_at (x : FVec Ideal S8192x256 .f32) (w : FVec Ideal S256x9 .f32) (b : FVec Ideal S9 .f32) (n : Fin 8192) (h : Fin 9) :
    layer3 x w b (ix2 n h) = (∑ q : Fin 256, x (ix2 n q) * w (ix2 q h)) + b (ix1 h) := by
  pointwise [layer3]

theorem sixes_at (pos : FVec Ideal S8192x3 .f32) (nb : FVec Ideal S8192x16x3 .f32) (n : Fin 8192) (k : Fin 16) (t : Fin 6) :
    sixes pos nb (ix3 n k t) = if h : t.val < 3 then pos (ix2 n ⟨t.val, h⟩) else pos (ix2 n ⟨t.val - 3, by omega⟩) - nb (ix3 n k ⟨t.val - 3, by omega⟩) := by
  pointwise [sixes]

theorem flat_at (x : FVec Ideal S8192x16x6 .f32) (n : Fin 8192) (q : Fin 96) :
    shapeCast S8192x96 x shapeCasts_S8192x16x6_S8192x96 (ix2 n q) = x (ix3 n ⟨q.val / 6, by omega⟩ ⟨q.val % 6, by omega⟩) := by
  pointwise []

theorem wrapped_at (i : IVec S8192x16 32) (n : Fin 8192) (k : Fin 16) (j : Fin 8192) (h : i (ix2 n k) = BitVec.ofNat 32 j.val) :
    min (wrapped i (ix3 n k 0)).toInt.toNat 8191 = j.val := by
  pointwise [wrapped]
  rw [h]
  have hj := j.isLt
  have hn : (BitVec.ofNat 32 j.val).toInt = (j.val : ℤ) := by
    rw [BitVec.toInt_eq_toNat_of_lt] <;> rw [BitVec.toNat_ofNat] <;> omega
  have hs : IntOp.cmpi .slt (BitVec.ofNat 32 j.val) 0#32 = 0#1 := by
    have : (BitVec.ofNat 32 j.val).slt 0#32 = false := by
      rw [BitVec.slt, hn]; simp
    simp [IntOp.cmpi, this]
  rw [hs]
  show min (BitVec.ofNat 32 j.val).toInt.toNat 8191 = j.val
  rw [hn]
  omega

theorem numbers_at (batch : IVec S8192 32) (n : Fin 8192) : numbers batch (ix2 n 0) = batch (ix1 n) := by
  pointwise [numbers]

theorem meansOf_at (s : FVec Ideal S8x9 .f32) (v : FVec Ideal S8 .f32) (b : Fin 8) (d : Fin 9) :
    meansOf s v (ix2 b d) = Ideal.div (s (ix2 b d)) (max (v (ix1 b)) 1) := by
  pointwise [meansOf]

theorem applied_at (pos : FVec Ideal S8192x3 .f32) (g : FVec Ideal S8192x9 .f32) (n : Fin 8192) (c : Fin 3) :
    applied pos g (ix2 n c) = ∑ d : Fin 3, pos (ix2 n d) * g (ix2 n ⟨3 * d.val + c.val, by omega⟩) := by
  pointwise [applied]
  exact Finset.sum_congr rfl fun d _ => congrArg (fun q : Fin 9 => pos (ix2 n d) * g (ix2 n q)) (Fin.ext (by
    show d.val * 3 + c.val = 3 * d.val + c.val
    omega))

theorem clouds_at (batch : IVec S8192 32) (n : Fin 8192) (h : (batch (ix1 n)).toNat < 8) :
    min (clouds batch (ix2 n 0)).toInt.toNat 7 = (batch (ix1 n)).toNat := by
  pointwise [clouds]
  generalize batch (ix1 n) = w at h
  have hn : w.toInt = (w.toNat : ℤ) := BitVec.toInt_eq_toNat_of_lt (by omega)
  have hs : IntOp.cmpi .slt w 0#32 = 0#1 := by
    have : w.slt 0#32 = false := by
      rw [BitVec.slt, hn]; simp
    simp [IntOp.cmpi, this]
  rw [hs]
  show min w.toInt.toNat 7 = w.toNat
  rw [hn]
  omega

theorem lands (w : BitVec 32) (b : BitVec 32) (hb : b.toNat < 8) : w.toInt = (b.toNat : ℤ) ↔ w = b := by
  constructor
  · intro h
    refine BitVec.eq_of_toInt_eq (h.trans ?_)
    exact (BitVec.toInt_eq_toNat_of_lt (by omega)).symm
  · rintro rfl
    exact BitVec.toInt_eq_toNat_of_lt (by omega)

theorem sumsOf_at (y : FVec Ideal S8192x9 .f32) (batch : IVec S8192 32) (b : BitVec 32) (hb : b.toNat < 8) (d : Fin 9) :
    sumsOf y batch (ix2 ⟨b.toNat, hb⟩ d) = ∑ n : Fin 8192, if batch (ix1 n) = b then y (ix2 n d) else 0 := by
  have hz : (broadcastInDim S8x9 ![] bcast_S_S8x9 (constant (F := Ideal) S_ .f32 0x00000000#32)) (ix2 ⟨b.toNat, hb⟩ d) = (0 : EReal) :=
    Ideal.ofBits_zero_f32
  show (broadcastInDim S8x9 ![] bcast_S_S8x9 (constant (F := Ideal) S_ .f32 0x00000000#32)) (ix2 ⟨b.toNat, hb⟩ d)
    + ∑ j ∈ Finset.univ.filter (fun j => scatter_S8x9_S8192x1_S8192x9_1_0_0_1.resultIdx? j (numbers batch) = some (ix2 ⟨b.toNat, hb⟩ d)), y j = _
  rw [hz, zero_add, Finset.sum_filter, sum_idx2]
  refine Finset.sum_congr rfl fun n _ => ?_
  simp only [row_lands, numbers_at, lands _ b hb]
  by_cases h : batch (ix1 n) = b
  · simp [h]
  · simp [h]

theorem countsOf_at (batch : IVec S8192 32) (b : BitVec 32) (hb : b.toNat < 8) :
    countsOf batch (ix1 ⟨b.toNat, hb⟩) = members (fun n => batch (ix1 n)) b := by
  have hz : (broadcastInDim S8 ![] bcast_S_S8 (constant (F := Ideal) S_ .f32 0x00000000#32)) (ix1 ⟨b.toNat, hb⟩) = (0 : EReal) :=
    Ideal.ofBits_zero_f32
  have ho : ∀ j, (broadcastInDim S8192 ![] bcast_S_S8192 (constant (F := Ideal) S_ .f32 0x3F800000#32)) j = (1 : EReal) := fun _ =>
    Ideal.ofBits_one_f32
  show (broadcastInDim S8 ![] bcast_S_S8 (constant (F := Ideal) S_ .f32 0x00000000#32)) (ix1 ⟨b.toNat, hb⟩)
    + ∑ j ∈ Finset.univ.filter (fun j => scatter_S8_S8192x1_S8192_n_0_0_1.resultIdx? j (numbers batch) = some (ix1 ⟨b.toNat, hb⟩)),
      (broadcastInDim S8192 ![] bcast_S_S8192 (constant (F := Ideal) S_ .f32 0x3F800000#32)) j = _
  rw [hz, zero_add, Finset.sum_filter, sum_idx1]
  refine Finset.sum_congr rfl fun n _ => ?_
  simp only [one_lands, numbers_at, lands _ b hb, ho]

theorem neighbours_at (pos : FVec Ideal S8192x3 .f32) (batch : IVec S8192 32) (ν : Fin 8192 → Fin 16 → Fin 8192)
    (hν : Near (fun i c => pos (ix2 i c)) (fun i => batch (ix1 i)) ν) (n : Fin 8192) (k : Fin 16) (c : Fin 3) :
    neighbours pos batch (ix3 n k c) = pos (ix2 (ν n k) c) := by
  obtain ⟨j, hj, he⟩ := top_at (masked pos batch) _ n (fun j => masked_at pos batch n j) k
  have hjν : j = ν n k := Fin.ext (rank_inj (key_inj _) (Finset.mem_range.2 j.isLt) (Finset.mem_range.2 (ν n k).isLt) (hj.trans (hν n k).symm))
  unfold neighbours
  rw [take_points]
  refine congrArg (fun q : Fin 8192 => pos (ix2 q c)) (Fin.ext ?_)
  exact (wrapped_at _ n k j he).trans (congrArg Fin.val hjν)

/-- The reference's neighbours are a list of the points of rank 0 to 15. -/
theorem near_exists (P : Fin 8192 → Fin 3 → EReal) (β : Fin 8192 → BitVec 32) : ∃ ν, Near P β ν := by
  have h : ∀ (i : Fin 8192) (k : Fin 16), ∃ j : Fin 8192, rank (key (apart P β i)) (Finset.range 8192) j.val = k.val := fun i k => by
    obtain ⟨j, hj, h⟩ := exists_rank (key_inj (apart P β i)) (A := Finset.range 8192) (t := k.val) (by rw [Finset.card_range]; omega)
    exact ⟨⟨j, Finset.mem_range.1 hj⟩, h⟩
  choose ν hν using h
  exact ⟨ν, hν⟩

section Network

variable (pos : FVec Ideal S8192x3 .f32) (batch : IVec S8192 32) (w1 : FVec Ideal S96x1024 .f32) (b1 : FVec Ideal S1024 .f32)
  (w2 : FVec Ideal S1024x256 .f32) (b2 : FVec Ideal S256 .f32) (w3 : FVec Ideal S256x9 .f32) (b3 : FVec Ideal S9 .f32)
  (ν : Fin 8192 → Fin 16 → Fin 8192) (hν : Near (fun i c => pos (ix2 i c)) (fun i => batch (ix1 i)) ν)

include hν

theorem network_at (n : Fin 8192) (d : Fin 9) :
    network pos batch w1 b1 w2 b2 w3 b3 (ix2 n d) = outputs (fun i c => pos (ix2 i c)) ν (fun q h => w1 (ix2 q h)) (fun h => b1 (ix1 h))
      (fun q h => w2 (ix2 q h)) (fun h => b2 (ix1 h)) (fun q h => w3 (ix2 q h)) (fun h => b3 (ix1 h)) n d := by
  unfold network outputs tailOf pre1
  simp only [layer3_at, layer2_at, layer1_at, flat_at, sixes_at, neighbours_at pos batch ν hν]
  rfl

/-- The reference's result at a coordinate. -/
theorem whole_at (hb : ∀ n, (batch (ix1 n)).toNat < 8) (n : Fin 8192) (c : Fin 3) :
    whole pos batch w1 b1 w2 b2 w3 b3 (ix2 n c) = result (fun i c => pos (ix2 i c)) (fun i => batch (ix1 i)) ν (fun q h => w1 (ix2 q h))
      (fun h => b1 (ix1 h)) (fun q h => w2 (ix2 q h)) (fun h => b2 (ix1 h)) (fun q h => w3 (ix2 q h)) (fun h => b3 (ix1 h)) n c := by
  unfold whole
  rw [applied_at]
  unfold result
  refine Finset.sum_congr rfl fun d _ => congrArg (pos (ix2 n d) * ·) ?_
  rw [take_means]
  have hi : (⟨min (clouds batch (ix2 n 0)).toInt.toNat 7, by omega⟩ : Fin 8) = ⟨(batch (ix1 n)).toNat, hb n⟩ := Fin.ext (clouds_at batch n (hb n))
  rw [hi, meansOf_at, sumsOf_at, countsOf_at]
  unfold total
  simp only [network_at pos batch w1 b1 w2 b2 w3 b3 ν hν]

end Network

end Cert.ReferenceIdeal.Knn

end
-- ==== Proof.lean ====
/- The claims of Defs.lean, put together: the frames of the kernel (as printed and idealized) and of the reference,
   that the idealization preserves the kernel, and that it computes what the reference computes. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.WholeBits
public import proofs.«01_k».proof.Proof.Close
public import proofs.«01_k».proof.Proof.RefFrame
public import proofs.«01_k».proof.Proof.RefRead

@[expose] public section

/-!
# The certificate

Kernel and reference both compute the specification's coordinates: the kernel's second call writes them, and the
reference's operations read them out.
-/

noncomputable section

namespace Cert.Proof

open Idealize.ShloMosaic Idealize.ShloMosaic.TcCoe Idealize.SL.Sem Cert.KernelIdeal.Knn

/-- The shape relations the precondition's operations take. -/
theorem preFacts : Cert.Pre_clouds_in_order.Facts where
  bcast_S_S8192x3 := by decide
  reducesTo_S8192x3_S_d0_1 := by decide
  h_S_ := by decide
  bcast_S_S8192 := by decide
  reducesTo_S8192_S_d0 := by decide
  slices_S8192_S8191_0 := by decide
  slices_S8192_S8191_1 := by decide
  reducesTo_S8191_S_d0 := by decide

/-- Points in order, kernel and reference end with the same array. -/
theorem agree (hP : Cert.Pre_clouds_in_order.Facts)
    (m : (ℓ : Loc Cert.KernelIdeal.nD Cert.KernelIdeal.τ Cert.KernelIdeal.sig) → Buf (Elt Ideal) ℓ) (g : Dev Cert.KernelIdeal.nD → PrngReg)
    (hp : Cert.Pre_KernelIdeal_clouds_in_order (hPre_clouds_in_order := hP) m) (c : Dev Cert.KernelIdeal.nD) :
    W4 m g c (Proc.devRef .tc Cert.KernelIdeal.main_v19)
      = Cert.ReferenceIdeal.Knn.whole (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  obtain ⟨hfar, hb, hs⟩ := Cert.Pre_clouds_in_order.facts_of _ _ _ _ _ _ _ _ (fun a => a.elim0) (congrFun (hp c) _)
  obtain ⟨ν, hν⟩ := Cert.ReferenceIdeal.Knn.near_exists (P m c) (β m c)
  refine funext fun (i : Cert.KernelIdeal.S8192x3.Idx) => ?_
  rw [← ix2_eta i]
  exact (kernel_at m g c ν hν hfar hs hb _ _).trans (Cert.ReferenceIdeal.Knn.whole_at _ _ _ _ _ _ _ _ ν hν hb _ _).symm

theorem same : Cert.algebraic_KernelIdeal_ReferenceIdeal_pre_clouds_in_order (hKernelIdeal := Cert.KernelIdeal.Gen.facts)
    (hReferenceIdeal := Cert.ReferenceIdeal.Gen.facts) (hPre_clouds_in_order := preFacts) := by
  intro m g m' g' hp ha
  refine ⟨fun c => W4 m g c (Proc.devRef .tc Cert.KernelIdeal.main_v19), ?_, ?_⟩
  · refine (θ_run Cert.KernelIdeal.defs _ _).mono (fun _ h c => ⟨h.1 c _ (mem_uc Cert.KernelIdeal.main_v19 (by decide)),
      kept_arg m g h.1 c Cert.KernelIdeal.main_arg0 (by decide) (by decide),
      kept_arg m g h.1 c Cert.KernelIdeal.main_arg1 (by decide) (by decide),
      kept_arg m g h.1 c Cert.KernelIdeal.main_arg2 (by decide) (by decide),
      kept_arg m g h.1 c Cert.KernelIdeal.main_arg3 (by decide) (by decide),
      kept_arg m g h.1 c Cert.KernelIdeal.main_arg4 (by decide) (by decide),
      kept_arg m g h.1 c Cert.KernelIdeal.main_arg5 (by decide) (by decide),
      kept_arg m g h.1 c Cert.KernelIdeal.main_arg6 (by decide) (by decide),
      kept_arg m g h.1 c Cert.KernelIdeal.main_arg7 (by decide) (by decide)⟩) (Cert.KernelIdeal.Knn.final m g)
  · refine (θ_run Cert.ReferenceIdeal.defs _ _).mono (fun _ h c => ⟨(h c).1.trans ?_, (h c).2⟩) (Cert.ReferenceIdeal.Value.run m' g')
    obtain ⟨h0, h1, h2, h3, h4, h5, h6, h7⟩ := ha c
    rw [Cert.ReferenceIdeal.Knn.res_eq, h0, h1, h2, h3, h4, h5, h6, h7]
    exact (agree preFacts m g hp c).symm

theorem claim : Cert.Claim := ⟨Cert.Kernel.Gen.facts, Cert.KernelIdeal.Gen.facts, Cert.ReferenceIdeal.Gen.facts, preFacts,
  fun m g _ => Cert.Kernel.Knn.ends m g, fun m g _ => Cert.KernelIdeal.Knn.ends m g, fun m g _ => Cert.KernelIdeal.Knn.ends m g,
  fun m g _ => Cert.ReferenceIdeal.Knn.ends m g, fun m g _ => Cert.ReferenceIdeal.Knn.ends m g, trivial, same⟩

end Cert.Proof

end
